-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_isolated_pre_bounded [hKernelIdeal : Cert.KernelIdeal.Facts] [hReferenceIdeal : Cert.ReferenceIdeal.Facts] [hPre_bounded : Cert.Pre_bounded.Facts] [hOn_isolated : Cert.On_isolated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 10]⟩ : Shape).Idx, (Cert.On_isolated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v5) i = v0 c i)
          ∧ (∀ i : (⟨2, ![1024, 10]⟩ : Shape).Idx, (Cert.On_isolated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v6) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 10]⟩ : Shape).Idx, (Cert.On_isolated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v20) i = v0 c i)
          ∧ (∀ i : (⟨2, ![1024, 10]⟩ : Shape).Idx, (Cert.On_isolated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_attained_pre_bounded [hKernelIdeal : Cert.KernelIdeal.Facts] [hPre_bounded : Cert.Pre_bounded.Facts] [hPost_attained : Cert.Post_attained.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_attained.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6))).1 = (fun _ => 1#1)
      ∧ (Cert.Post_attained.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6))).2.1 = (fun _ => 1#1)
      ∧ (Cert.Post_attained.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6))).2.2 = (fun _ => 1#1))

def Claim : Prop :=
  ∃ (hKernel : Cert.Kernel.Facts) (hKernelIdeal : Cert.KernelIdeal.Facts) (hReferenceIdeal : Cert.ReferenceIdeal.Facts) (hPre_bounded : Cert.Pre_bounded.Facts) (hPost_attained : Cert.Post_attained.Facts) (hOn_isolated : Cert.On_isolated.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_on_isolated_pre_bounded (hKernelIdeal := hKernelIdeal) (hReferenceIdeal := hReferenceIdeal) (hPre_bounded := hPre_bounded) (hOn_isolated := hOn_isolated)
    ∧ holds_KernelIdeal_attained_pre_bounded (hKernelIdeal := hKernelIdeal) (hPre_bounded := hPre_bounded) (hPost_attained := hPost_attained)
-- ==== On_isolated.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩
abbrev S1024x11 : Shape := ⟨2, ![1024, 11]⟩
abbrev S1024x10 : Shape := ⟨2, ![1024, 10]⟩
abbrev S1024x9 : Shape := ⟨2, ![1024, 9]⟩

class Facts : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x128_S128x100000_1_0 : S100000x128.Transposes [1, 0] S128x100000
  bcast_S_S1024x100000 : S_.BroadcastsInDim S1024x100000 (![] : Fin 0 → Fin S1024x100000.rank)
  sliceFits_S1024x100000_S1024x11 : S1024x100000.Slices (fun _ => 0) S1024x11
  slices_S1024x11_S1024x10_0_0 : S1024x11.Slices ![0, 0] S1024x10
  slices_S1024x11_S1024x10_0_1 : S1024x11.Slices ![0, 1] S1024x10
  bcast_S_S1024x1 : S_.BroadcastsInDim S1024x1 (![] : Fin 0 → Fin S1024x1.rank)
  slices_S1024x10_S1024x9_0_0 : S1024x10.Slices ![0, 0] S1024x9
  concatenates_S1024x1_S1024x9_S1024x10_d1 : Shape.Concatenates [S1024x1, S1024x9] S1024x10 1
  bcast_S_S1024x10 : S_.BroadcastsInDim S1024x10 (![] : Fin 0 → Fin S1024x10.rank)
  dot_S1024x128_S128x100000_S1024x100000_1_0_0_1_n_n_wf : DotDims.WF S1024x128 S128x100000 S1024x100000 [1] [0] [0] [1] [] []

variable [Facts]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf
def fn_part1 {F : FTy → Type} [FloatOps F] (main_v18 : FVec F S1024x100000 .f32) : IVec S1024x10 1 × IVec S1024x10 1 :=
  let main_v19 : FVec F S1024x100000 .f32 := Host.negf main_v18
  let main_values : FVec F S1024x11 .f32 := (fun x => (Host.topK S1024x11 1 (FloatOps.cmpfTotal .gt) x sliceFits_S1024x100000_S1024x11).1) main_v19
  let main_indices : IVec S1024x11 32 := (fun x => (Host.topK S1024x11 1 (FloatOps.cmpfTotal .gt) x sliceFits_S1024x100000_S1024x11).2) main_v19
  let main_v20 : FVec F S1024x10 .f32 := (extractStridedSlice S1024x10 ![0, 0] · slices_S1024x11_S1024x10_0_0) main_values
  let main_v21 : FVec F S1024x10 .f32 := (extractStridedSlice S1024x10 ![0, 1] · slices_S1024x11_S1024x10_0_1) main_values
  let main_v22 : IVec S1024x10 1 := cmpf .ogt main_v20 main_v21
  let main_c : IVec S_ 1 := constantI S_ 1 1#1
  let main_v23 : IVec S1024x1 1 := broadcastInDim S1024x1 ![] bcast_S_S1024x1 main_c
  let main_v24 : IVec S1024x9 1 := (extractStridedSlice S1024x9 ![0, 0] · slices_S1024x10_S1024x9_0_0) main_v22
  let main_v25 : IVec S1024x10 1 := (fun a b => concatenate S1024x10 1 [⟨S1024x1, a⟩, ⟨S1024x9, b⟩] concatenates_S1024x1_S1024x9_S1024x10_d1) main_v23 main_v24
  let main_c_4 : IVec S_ 1 := constantI S_ 1 1#1
  let main_v26 : IVec S1024x10 1 := broadcastInDim S1024x10 ![] bcast_S_S1024x10 main_c_4
  let main_v27 : IVec S1024x10 1 := andi main_v25 main_v22
  (main_v26, main_v27)

def fn {F : FTy → Type} [FloatOps F] (main_arg0 : FVec F S1024x128 .f32) (main_arg1 : FVec F S100000x128 .f32) : IVec S1024x10 1 × IVec S1024x10 1 :=
  let main_v0 : FVec F S1024x128 .f32 := mulf main_arg0 main_arg0
  let main_cst : FVec F S_ .f32 := constant S_ .f32 0x00000000#32
  let main_v1 : FVec F S1024 .f32 := (fun x v => Host.reduceAdd x v reducesTo_S1024x128_S1024_d1 h_S_) main_v0 main_cst
  let main_v2 : FVec F S1024x1 .f32 := broadcastInDim S1024x1 ![0] bcast_S1024_S1024x1_0 main_v1
  let main_v3 : FVec F S100000x128 .f32 := mulf main_arg1 main_arg1
  let main_cst_0 : FVec F S_ .f32 := constant S_ .f32 0x00000000#32
  let main_v4 : FVec F S100000 .f32 := (fun x v => Host.reduceAdd x v reducesTo_S100000x128_S100000_d1 h_S_) main_v3 main_cst_0
  let main_v5 : FVec F S1x100000 .f32 := broadcastInDim S1x100000 ![1] bcast_S100000_S1x100000_1 main_v4
  let main_v6 : FVec F S1024x100000 .f32 := broadcastInDim S1024x100000 ![0, 1] bcast_S1024x1_S1024x100000_0_1 main_v2
  let main_v7 : FVec F S1024x100000 .f32 := broadcastInDim S1024x100000 ![0, 1] bcast_S1x100000_S1024x100000_0_1 main_v5
  let main_v8 : FVec F S1024x100000 .f32 := addf main_v6 main_v7
  let main_v9 : FVec F S128x100000 .f32 := (transpose S128x100000 [1, 0] · transposes_S100000x128_S128x100000_1_0) main_arg1
  let main_v10 : FVec F S1024x100000 .f32 := (fun l r => Host.dotGeneral dot_S1024x128_S128x100000_S1024x100000_1_0_0_1_n_n none l r) main_arg0 main_v9
  let main_cst_1 : FVec F S_ .f32 := constant S_ .f32 0x40000000#32
  let main_v11 : FVec F S1024x100000 .f32 := broadcastInDim S1024x100000 ![] bcast_S_S1024x100000 main_cst_1
  let main_v12 : FVec F S1024x100000 .f32 := mulf main_v11 main_v10
  let main_v13 : FVec F S1024x100000 .f32 := subf main_v8 main_v12
  let main_cst_2 : FVec F S_ .f32 := constant S_ .f32 0x00000000#32
  let main_v14 : FVec F S1024x100000 .f32 := broadcastInDim S1024x100000 ![] bcast_S_S1024x100000 main_cst_2
  let main_v15 : FVec F S1024x100000 .f32 := maximumf main_v13 main_v14
  let main_cst_3 : FVec F S_ .f32 := constant S_ .f32 0x2B8CBCCC#32
  let main_v16 : FVec F S1024x100000 .f32 := broadcastInDim S1024x100000 ![] bcast_S_S1024x100000 main_cst_3
  let main_v17 : FVec F S1024x100000 .f32 := addf main_v15 main_v16
  let main_v18 : FVec F S1024x100000 .f32 := Host.sqrt main_v17
  fn_part1 (F := F) main_v18
-- ==== Post_attained.lean ====
abbrev S1024x128 : Shape := ⟨2, ![1024, 128]⟩
abbrev S100000x128 : Shape := ⟨2, ![100000, 128]⟩
abbrev S1024x10 : Shape := ⟨2, ![1024, 10]⟩
abbrev S_ : Shape := ⟨0, ![]⟩
abbrev S1024x10x1 : Shape := ⟨3, ![1024, 10, 1]⟩
abbrev S1024x10x128 : Shape := ⟨3, ![1024, 10, 128]⟩
abbrev S1024 : Shape := ⟨1, ![1024]⟩
abbrev S1024x1 : Shape := ⟨2, ![1024, 1]⟩
abbrev S1024x1x128 : Shape := ⟨3, ![1024, 1, 128]⟩
abbrev S1024x10x10 : Shape := ⟨3, ![1024, 10, 10]⟩
abbrev S1024x1x10 : Shape := ⟨3, ![1024, 1, 10]⟩

class Facts : Prop where
  bcast_S_S1024x10 : S_.BroadcastsInDim S1024x10 (![] : Fin 0 → Fin S1024x10.rank)
  bcast_S1024x10_S1024x10x1_0_1 : S1024x10.BroadcastsInDim S1024x10x1 (![0, 1] : Fin 2 → Fin S1024x10x1.rank)
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S1024x10x128_S1024x10_d2 : S1024x10x128.ReducesTo [2] S1024x10
  bcast_S1024x1_S1024x10_0_1 : S1024x1.BroadcastsInDim S1024x10 (![0, 1] : Fin 2 → Fin S1024x10.rank)
  bcast_S1024x128_S1024x1x128_0_2 : S1024x128.BroadcastsInDim S1024x1x128 (![0, 2] : Fin 2 → Fin S1024x1x128.rank)
  bcast_S1024x1x128_S1024x10x128_0_1_2 : S1024x1x128.BroadcastsInDim S1024x10x128 (![0, 1, 2] : Fin 3 → Fin S1024x10x128.rank)
  bcast_S1024x10_S1024x1x10_0_2 : S1024x10.BroadcastsInDim S1024x1x10 (![0, 2] : Fin 2 → Fin S1024x1x10.rank)
  bcast_S1024x10x1_S1024x10x10_0_1_2 : S1024x10x1.BroadcastsInDim S1024x10x10 (![0, 1, 2] : Fin 3 → Fin S1024x10x10.rank)
  bcast_S1024x1x10_S1024x10x10_0_1_2 : S1024x1x10.BroadcastsInDim S1024x10x10 (![0, 1, 2] : Fin 3 → Fin S1024x10x10.rank)
  gather_S100000x128_S1024x10x1_S1024x10x128_2_0_n_n_0_2_1128_wf : GatherDims.WF S100000x128 S1024x10x1 S1024x10x128 [2] [0] [] [0] [] 2 ![1, 128]

variable [Facts]

def gather_S100000x128_S1024x10x1_S1024x10x128_2_0_n_n_0_2_1128 : GatherDims S100000x128 S1024x10x1 S1024x10x128 where
  offsetDims := [2]
  collapsedSliceDims := [0]
  operandBatchingDims := []
  startIndicesBatchingDims := []
  startIndexMap := [0]
  indexVectorDim := 2
  sliceSizes := ![1, 128]
  wf := gather_S100000x128_S1024x10x1_S1024x10x128_2_0_n_n_0_2_1128_wf
def fn_take {F : FTy → Type} [FloatOps F] (arg0 : FVec F S100000x128 .f32) (arg1 : IVec S1024x10 32) : FVec F S1024x10x128 .f32 :=
  let v0 : IVec S1024x10x1 32 := broadcastInDim S1024x10x1 ![0, 1] bcast_S1024x10_S1024x10x1_0_1 arg1
  let v1 : FVec F S1024x10x128 .f32 := (fun x i => Host.gather gather_S100000x128_S1024x10x1_S1024x10x128_2_0_n_n_0_2_1128 x i) arg0 v0
  v1

def fn_part1 {F : FTy → Type} [FloatOps F] (main_arg2 : FVec F S1024x10 .f32) (main_arg3 : IVec S1024x10 32) (main_v4 : IVec S1024x10 1) (main_v12 : FVec F S1024x10 .f32) (main_v16 : FVec F S1024x10 .f32) (main_v17 : FVec F S1024x10 .f32) : IVec S1024x10 1 × IVec S1024x10 1 × IVec S1024x10x10 1 :=
  let main_v18 : FVec F S1024x10 .f32 := mulf main_v17 main_v16
  let main_v19 : FVec F S1024x10 .f32 := subf main_v12 main_v18
  let main_cst_4 : FVec F S_ .f32 := constant S_ .f32 0x00000000#32
  let main_v20 : FVec F S1024x10 .f32 := broadcastInDim S1024x10 ![] bcast_S_S1024x10 main_cst_4
  let main_v21 : FVec F S1024x10 .f32 := maximumf main_v19 main_v20
  let main_cst_5 : FVec F S_ .f32 := constant S_ .f32 0x2B8CBCCC#32
  let main_v22 : FVec F S1024x10 .f32 := broadcastInDim S1024x10 ![] bcast_S_S1024x10 main_cst_5
  let main_v23 : FVec F S1024x10 .f32 := addf main_v21 main_v22
  let main_v24 : FVec F S1024x10 .f32 := Host.sqrt main_v23
  let main_v25 : IVec S1024x10x10 32 := iotaInDim S1024x10x10 32 1
  let main_v26 : IVec S1024x10x10 32 := iotaInDim S1024x10x10 32 2
  let main_v27 : IVec S1024x10x1 32 := broadcastInDim S1024x10x1 ![0, 1] bcast_S1024x10_S1024x10x1_0_1 main_arg3
  let main_v28 : IVec S1024x1x10 32 := broadcastInDim S1024x1x10 ![0, 2] bcast_S1024x10_S1024x1x10_0_2 main_arg3
  let main_v29 : IVec S1024x10x10 32 := broadcastInDim S1024x10x10 ![0, 1, 2] bcast_S1024x10x1_S1024x10x10_0_1_2 main_v27
  let main_v30 : IVec S1024x10x10 32 := broadcastInDim S1024x10x10 ![0, 1, 2] bcast_S1024x1x10_S1024x10x10_0_1_2 main_v28
  let main_v31 : IVec S1024x10x10 1 := cmpi .ne main_v29 main_v30
  let main_v32 : IVec S1024x10x10 1 := cmpi .eq main_v25 main_v26
  let main_v33 : IVec S1024x10x10 1 := ori main_v31 main_v32
  let main_v34 : IVec S1024x10 1 := cmpf .oeq main_arg2 main_v24
  (main_v4, main_v34, main_v33)

def fn {F : FTy → Type} [FloatOps F] (main_arg0 : FVec F S1024x128 .f32) (main_arg1 : FVec F S100000x128 .f32) (main_arg2 : FVec F S1024x10 .f32) (main_arg3 : IVec S1024x10 32) : IVec S1024x10 1 × IVec S1024x10 1 × IVec S1024x10x10 1 :=
  let main_c : IVec S_ 32 := constantI S_ 32 0#32
  let main_v0 : IVec S1024x10 32 := broadcastInDim S1024x10 ![] bcast_S_S1024x10 main_c
  let main_v1 : IVec S1024x10 1 := cmpi .sge main_arg3 main_v0
  let main_c_0 : IVec S_ 32 := constantI S_ 32 100000#32
  let main_v2 : IVec S1024x10 32 := broadcastInDim S1024x10 ![] bcast_S_S1024x10 main_c_0
  let main_v3 : IVec S1024x10 1 := cmpi .slt main_arg3 main_v2
  let main_v4 : IVec S1024x10 1 := andi main_v1 main_v3
  let main_v5 : FVec F S1024x10x128 .f32 := fn_take (F := F) main_arg1 main_arg3
  let main_v6 : FVec F S1024x128 .f32 := mulf main_arg0 main_arg0
  let main_cst : FVec F S_ .f32 := constant S_ .f32 0x00000000#32
  let main_v7 : FVec F S1024 .f32 := (fun x v => Host.reduceAdd x v reducesTo_S1024x128_S1024_d1 h_S_) main_v6 main_cst
  let main_v8 : FVec F S1024x1 .f32 := broadcastInDim S1024x1 ![0] bcast_S1024_S1024x1_0 main_v7
  let main_v9 : FVec F S1024x10x128 .f32 := mulf main_v5 main_v5
  let main_cst_1 : FVec F S_ .f32 := constant S_ .f32 0x00000000#32
  let main_v10 : FVec F S1024x10 .f32 := (fun x v => Host.reduceAdd x v reducesTo_S1024x10x128_S1024x10_d2 h_S_) main_v9 main_cst_1
  let main_v11 : FVec F S1024x10 .f32 := broadcastInDim S1024x10 ![0, 1] bcast_S1024x1_S1024x10_0_1 main_v8
  let main_v12 : FVec F S1024x10 .f32 := addf main_v11 main_v10
  let main_v13 : FVec F S1024x1x128 .f32 := broadcastInDim S1024x1x128 ![0, 2] bcast_S1024x128_S1024x1x128_0_2 main_arg0
  let main_v14 : FVec F S1024x10x128 .f32 := broadcastInDim S1024x10x128 ![0, 1, 2] bcast_S1024x1x128_S1024x10x128_0_1_2 main_v13
  let main_v15 : FVec F S1024x10x128 .f32 := mulf main_v14 main_v5
  let main_cst_2 : FVec F S_ .f32 := constant S_ .f32 0x00000000#32
  let main_v16 : FVec F S1024x10 .f32 := (fun x v => Host.reduceAdd x v reducesTo_S1024x10x128_S1024x10_d2 h_S_) main_v15 main_cst_2
  let main_cst_3 : FVec F S_ .f32 := constant S_ .f32 0x40000000#32
  let main_v17 : FVec F S1024x10 .f32 := broadcastInDim S1024x10 ![] bcast_S_S1024x10 main_cst_3
  fn_part1 (F := F) main_arg2 main_arg3 main_v4 main_v12 main_v16 main_v17
-- ==== Pre_bounded.lean ====
abbrev S1024x128 : Shape := ⟨2, ![1024, 128]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  bcast_S_S100000x128 : S_.BroadcastsInDim S100000x128 (![] : Fin 0 → Fin S100000x128.rank)

variable [Facts]

def fn {F : FTy → Type} [FloatOps F] (main_arg0 : FVec F S1024x128 .f32) (main_arg1 : FVec F S100000x128 .f32) : IVec S1024x128 1 × IVec S100000x128 1 :=
  let main_v0 : FVec F S1024x128 .f32 := Host.absf main_arg0
  let main_cst : FVec F S_ .f32 := constant S_ .f32 0x45505000#32
  let main_v1 : FVec F S1024x128 .f32 := broadcastInDim S1024x128 ![] bcast_S_S1024x128 main_cst
  let main_v2 : IVec S1024x128 1 := cmpf .ole main_v0 main_v1
  let main_v3 : FVec F S100000x128 .f32 := Host.absf main_arg1
  let main_cst_0 : FVec F S_ .f32 := constant S_ .f32 0x45505000#32
  let main_v4 : FVec F S100000x128 .f32 := broadcastInDim S100000x128 ![] bcast_S_S100000x128 main_cst_0
  let main_v5 : IVec S100000x128 1 := cmpf .ole main_v3 main_v4
  (main_v2, main_v5)
-- ==== Kernel.lean ====
abbrev S1024x128 : Shape := ⟨2, ![1024, 128]⟩
abbrev S100000x128 : Shape := ⟨2, ![100000, 128]⟩
abbrev S_ : Shape := ⟨0, ![]⟩
abbrev S106496x128 : Shape := ⟨2, ![106496, 128]⟩
abbrev S128x106496 : Shape := ⟨2, ![128, 106496]⟩
abbrev S256x128 : Shape := ⟨2, ![256, 128]⟩
abbrev S128x8192 : Shape := ⟨2, ![128, 8192]⟩
abbrev S8192 : Shape := ⟨1, ![8192]⟩
abbrev S1x8192 : Shape := ⟨2, ![1, 8192]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩
abbrev S256x10 : Shape := ⟨2, ![256, 10]⟩
abbrev S256x118 : Shape := ⟨2, ![256, 118]⟩
abbrev S1x256x128 : Shape := ⟨3, ![1, 256, 128]⟩
abbrev S1 : Shape := ⟨1, ![1]⟩
abbrev S1x1x1 : Shape := ⟨3, ![1, 1, 1]⟩
abbrev S256x8320 : Shape := ⟨2, ![256, 8320]⟩
abbrev S1024x10 : Shape := ⟨2, ![1024, 10]⟩

abbrev nBuf : Space → Nat
  | .hbm => 13
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S_, .f32⟩
  | .hbm, ⟨3, _⟩ => ⟨S_, .f32⟩
  | .hbm, ⟨4, _⟩ => ⟨S106496x128, .f32⟩
  | .hbm, ⟨5, _⟩ => ⟨S128x106496, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .i32⟩
  | .hbm, ⟨11, _⟩ => ⟨S1024x10, .f32⟩
  | .hbm, ⟨12, _⟩ => ⟨S1024x10, .i32⟩
  | .local _ .vmem, ⟨0, _⟩ => ⟨S256x128, .f32⟩
  | .local _ .vmem, ⟨1, _⟩ => ⟨S256x128, .f32⟩
  | .local _ .vmem, ⟨2, _⟩ => ⟨S128x8192, .f32⟩
  | .local _ .vmem, ⟨3, _⟩ => ⟨S128x8192, .f32⟩
  | .local _ .vmem, ⟨4, _⟩ => ⟨S256x128, .f32⟩
  | .local _ .vmem, ⟨5, _⟩ => ⟨S256x128, .f32⟩
  | .local _ .vmem, ⟨6, _⟩ => ⟨S256x128, .i32⟩
  | .local _ .vmem, ⟨7, _⟩ => ⟨S256x128, .i32⟩
  | .local _ .vmem, ⟨8, _⟩ => ⟨S256x128, .f32⟩
  | .local _ .vmem, ⟨9, _⟩ => ⟨S256x128, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 13], ![false, false]⟩

def k0_cond3 (i : grid0.Coords) : BitVec 1 :=
  let arg1 : BitVec 32 := BitVec.ofNat 32 (i 1).val
  let c12_i32 : BitVec 32 := 12#32
  let v1506 : BitVec 1 := Scalar.cmpi .eq arg1 c12_i32
  let v1507 : BitVec 32 := Scalar.extui v1506
  let c0_i32_80 : BitVec 32 := 0#32
  let v1508 : BitVec 1 := Scalar.cmpi .ne v1507 c0_i32_80
  v1508

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S1024x128 : Shape := ⟨2, ![1024, 128]⟩
abbrev S100000x128 : Shape := ⟨2, ![100000, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩
abbrev S1024x10 : Shape := ⟨2, ![1024, 10]⟩

abbrev nBuf : Space → Nat
  | .hbm => 30
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S128x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S_, .f32⟩
  | .hbm, ⟨23, _⟩ => ⟨S1024x100000, .f32⟩
  | .hbm, ⟨24, _⟩ => ⟨S1024x100000, .f32⟩
  | .hbm, ⟨25, _⟩ => ⟨S1024x100000, .f32⟩
  | .hbm, ⟨26, _⟩ => ⟨S1024x100000, .f32⟩
  | .hbm, ⟨27, _⟩ => ⟨S1024x10, .f32⟩
  | .hbm, ⟨28, _⟩ => ⟨S1024x10, .i32⟩
  | .hbm, ⟨29, _⟩ => ⟨S1024x10, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_values : Ref sig .tc := ⟨.hbm, 27, rfl⟩
abbrev main_indices : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

set_option maxRecDepth 16384

noncomputable section

namespace Cert.TopK

open Idealize.ShloMosaic Idealize.SL.Sem
open Cert.KernelIdeal Cert.KernelIdeal.Gen

variable {F : FTy → Type} [FloatOps F]

/-! ## The scan of a block: per lane, the three smallest values with their indices -/

/-- What a scan keeps for every query and lane: the least value it dropped, and the three smallest values with their
    indices, in order. -/
structure Stack (F : FTy → Type) where
  m4 : FVec F S256x128 .f32
  v0 : FVec F S256x128 .f32
  i0 : IVec S256x128 32
  v1 : FVec F S256x128 .f32
  i1 : IVec S256x128 32
  v2 : FVec F S256x128 .f32
  i2 : IVec S256x128 32

/-- The vector of plus infinities. -/
def infs : FVec F S256x128 .f32 := broadcast S256x128 (Scalar.ofBits .f32 0x7F800000#32)
/-- The vector of minus ones. -/
def negs : IVec S256x128 32 := broadcast S256x128 4294967295#32

/-- Nothing scanned yet. -/
def Stack.empty : Stack F := ⟨infs, infs, negs, infs, negs, infs, negs⟩

/-- A lane group lies within the tile. -/
theorem slices_grp (g : ℕ) : S256x8192.Slices ![0, 128 * (g % 64)] S256x128 :=
  ⟨rfl, fun a => by
    have hg : g % 64 < 64 := Nat.mod_lt _ (by decide)
    fin_cases a
    · show (0 : ℕ) + 256 ≤ 256; omega
    · show 128 * (g % 64) + 128 ≤ 8192; omega⟩

/-- Lane group `g` of a block of scores. -/
def grpV (d : FVec F S256x8192 .f32) (g : ℕ) : FVec F S256x128 .f32 :=
  extractStridedSlice S256x128 ![0, 128 * (g % 64)] d (slices_grp g)

/-- The key indices of lane group `g` of the block starting at `base`. -/
def grpI (base : BitVec 32) (lane : IVec S256x128 32) (g : ℕ) : IVec S256x128 32 :=
  addi lane (broadcast S256x128 (Scalar.addi base (BitVec.ofNat 32 (128 * g))))

/-- The larger of a value and a stored one, after the smaller took the place. -/
def outV (v s : FVec F S256x128 .f32) : FVec F S256x128 .f32 := select (cmpf .olt v s) s v
/-- The index going with `outV`. -/
def outI (v s : FVec F S256x128 .f32) (vi si : IVec S256x128 32) : IVec S256x128 32 := select (cmpf .olt v s) si vi
/-- The smaller of a value and a stored one. -/
def inV (v s : FVec F S256x128 .f32) : FVec F S256x128 .f32 := select (cmpf .olt v s) v s
/-- The index going with `inV`. -/
def inI (v s : FVec F S256x128 .f32) (vi si : IVec S256x128 32) : IVec S256x128 32 := select (cmpf .olt v s) vi si

/-- The value that falls out of a stack into which `v` is inserted. -/
def Stack.fall (s : Stack F) (v : FVec F S256x128 .f32) : FVec F S256x128 .f32 := outV (outV (outV v s.v0) s.v1) s.v2

/-- The stack after inserting the values `v` with indices `vi`. -/
def Stack.push (s : Stack F) (v : FVec F S256x128 .f32) (vi : IVec S256x128 32) : Stack F where
  m4 := minimumf s.m4 (s.fall v)
  v0 := inV v s.v0
  i0 := inI v s.v0 vi s.i0
  v1 := inV (outV v s.v0) s.v1
  i1 := inI (outV v s.v0) s.v1 (outI v s.v0 vi s.i0) s.i1
  v2 := inV (outV (outV v s.v0) s.v1) s.v2
  i2 := inI (outV (outV v s.v0) s.v1) s.v2 (outI (outV v s.v0) s.v1 (outI v s.v0 vi s.i0) s.i1) s.i2

/-- The stack after inserting lane group `g` of a block. -/
def Stack.step (d : FVec F S256x8192 .f32) (base : BitVec 32) (lane : IVec S256x128 32) (g : ℕ) (s : Stack F) : Stack F :=
  s.push (grpV d g) (grpI base lane g)

/-- The stack after the first `n` lane groups of a block. -/
def stackAt (d : FVec F S256x8192 .f32) (base : BitVec 32) (lane : IVec S256x128 32) : ℕ → Stack F
  | 0 => Stack.empty
  | n + 1 => (stackAt d base lane n).step d base lane n

/-! ## The selection: ten rounds over the running list and the heads of the stacks -/

/-- The state of the selection: the running values, the stacks, and how often each lane was popped. -/
structure Sel (F : FTy → Type) where
  rv : FVec F S256x128 .f32
  v0 : FVec F S256x128 .f32
  i0 : IVec S256x128 32
  v1 : FVec F S256x128 .f32
  i1 : IVec S256x128 32
  v2 : FVec F S256x128 .f32
  i2 : IVec S256x128 32
  pc : IVec S256x128 32

/-- The selection's beginning: running values `rv` and the stacks of `s`, nothing popped. -/
def Sel.start (rv : FVec F S256x128 .f32) (s : Stack F) : Sel F :=
  ⟨rv, s.v0, s.i0, s.v1, s.i1, s.v2, s.i2, broadcast S256x128 0#32⟩

/-- The candidate values of a round. -/
def Sel.wv (s : Sel F) : FVec F S256x256 .f32 :=
  concatenate S256x256 1 [⟨S256x128, s.rv⟩, ⟨S256x128, s.v0⟩] concatenates_S256x128_S256x128_S256x256_d1
/-- The candidate indices of a round. -/
def Sel.wi (ri : IVec S256x128 32) (s : Sel F) : IVec S256x256 32 :=
  concatenate S256x256 1 [⟨S256x128, ri⟩, ⟨S256x128, s.i0⟩] concatenates_S256x128_S256x128_S256x256_d1
/-- The least candidate value. -/
def Sel.val (s : Sel F) : FVec F S256x1 .f32 :=
  shapeCast S256x1 (multiReduction .minimumf [1] S256 s.wv 0x7F800000#32 reduces_S256x256_S256 (.inl rfl) rfl) shapeCasts_S256_S256x1
/-- Which candidates have the least value. -/
def Sel.eqs (s : Sel F) : IVec S256x256 1 := cmpf .oeq s.wv (broadcastTo S256x256 s.val broadcasts_S256x1_S256x256)
/-- The indices of the candidates with the least value, the largest integer elsewhere. -/
def Sel.cand (ri : IVec S256x128 32) (s : Sel F) : IVec S256x256 32 :=
  select s.eqs (s.wi ri) (broadcast S256x256 2147483647#32)
/-- The least index among the candidates with the least value. -/
def Sel.idx (ri : IVec S256x128 32) (s : Sel F) : IVec S256x1 32 :=
  shapeCast S256x1 (multiReductionI .minsi [1] S256 (s.cand ri) 2147483647#32 reduces_S256x256_S256 rfl) shapeCasts_S256_S256x1
/-- The chosen index along the lanes. -/
def Sel.sel (ri : IVec S256x128 32) (s : Sel F) : IVec S256x128 32 := broadcastTo S256x128 (s.idx ri) broadcasts_S256x1_S256x128
/-- The lanes whose head was chosen. -/
def Sel.pop (ri : IVec S256x128 32) (s : Sel F) : IVec S256x128 1 := cmpi .eq s.i0 (s.sel ri)

/-- The state after one round. -/
def Sel.next (ri : IVec S256x128 32) (s : Sel F) : Sel F where
  rv := select (cmpi .eq ri (s.sel ri)) infs s.rv
  v0 := select (s.pop ri) s.v1 s.v0
  i0 := select (s.pop ri) s.i1 s.i0
  v1 := select (s.pop ri) s.v2 s.v1
  i1 := select (s.pop ri) s.i2 s.i1
  v2 := select (s.pop ri) infs s.v2
  i2 := select (s.pop ri) negs s.i2
  pc := addi s.pc (extui 32 (s.pop ri) natLt_1_32)

/-- The state after `n` rounds. -/
def selAt (ri : IVec S256x128 32) (s : Sel F) : ℕ → Sel F
  | 0 => s
  | n + 1 => (selAt ri s n).next ri

/-- The ten chosen values, then plus infinities. -/
def packV (f : ℕ → FVec F S256x1 .f32) : FVec F S256x128 .f32 :=
  shapeCast S256x128 (concatenate S256x128 1 [⟨S256x10, concatenate S256x10 1 [⟨S256x1, f 0⟩, ⟨S256x1, f 1⟩, ⟨S256x1, f 2⟩,
      ⟨S256x1, f 3⟩, ⟨S256x1, f 4⟩, ⟨S256x1, f 5⟩, ⟨S256x1, f 6⟩, ⟨S256x1, f 7⟩, ⟨S256x1, f 8⟩, ⟨S256x1, f 9⟩]
      concatenates_S256x1_S256x1_S256x1_S256x1_S256x1_S256x1_S256x1_S256x1_S256x1_S256x1_S256x10_d1⟩,
    ⟨S256x118, broadcast S256x118 (Scalar.ofBits .f32 0x7F800000#32)⟩] concatenates_S256x10_S256x118_S256x128_d1)
    shapeCasts_S256x128_S256x128
/-- The ten chosen indices, then minus ones. -/
def packI (f : ℕ → IVec S256x1 32) : IVec S256x128 32 :=
  shapeCast S256x128 (concatenate S256x128 1 [⟨S256x10, concatenate S256x10 1 [⟨S256x1, f 0⟩, ⟨S256x1, f 1⟩, ⟨S256x1, f 2⟩,
      ⟨S256x1, f 3⟩, ⟨S256x1, f 4⟩, ⟨S256x1, f 5⟩, ⟨S256x1, f 6⟩, ⟨S256x1, f 7⟩, ⟨S256x1, f 8⟩, ⟨S256x1, f 9⟩]
      concatenates_S256x1_S256x1_S256x1_S256x1_S256x1_S256x1_S256x1_S256x1_S256x1_S256x1_S256x10_d1⟩,
    ⟨S256x118, broadcast S256x118 4294967295#32⟩] concatenates_S256x10_S256x118_S256x128_d1)
    shapeCasts_S256x128_S256x128

/-- One in the lanes popped three times whose least dropped value is not above the tenth chosen one, zero elsewhere. -/
def ovfMask (m4 : FVec F S256x128 .f32) (tau : FVec F S256x1 .f32) (pc : IVec S256x128 32) : FVec F S256x128 .f32 :=
  select (andi (cmpi .sge pc (broadcast S256x128 3#32)) (cmpf .ole m4 (broadcastTo S256x128 tau broadcasts_S256x1_S256x128)))
    (broadcast S256x128 (Scalar.ofBits .f32 0x3F800000#32)) (broadcast S256x128 (Scalar.ofBits .f32 0x00000000#32))

/-- Whether some lane of some query may hide a value that belongs to the ten. -/
def overflow (m4 : FVec F S256x128 .f32) (tau : FVec F S256x1 .f32) (pc : IVec S256x128 32) : Prop :=
  Scalar.cmpi .ne (Scalar.extui (Scalar.cmpf .ogt (extractAt ![0, 0, 0]
    (shapeCast S1x1x1 (multiReduction .maximumf [1, 2] S1 (shapeCast S1x256x128 (ovfMask m4 tau pc) shapeCasts_S256x128_S1x256x128)
      0xFF800000#32 reduces_S1x256x128_S1 (.inl rfl) rfl) shapeCasts_S1_S1x1x1) inpos_S1x1x1_p0_0_0)
    (Scalar.ofBits .f32 0x00000000#32))) 0#32 = 1#1

/-! ## The fallback: ten rounds over the running list and the whole block -/

/-- The fallback's values: the running list, then the block. -/
def fullV (rv : FVec F S256x128 .f32) (d : FVec F S256x8192 .f32) : FVec F S256x8320 .f32 :=
  concatenate S256x8320 1 [⟨S256x128, rv⟩, ⟨S256x8192, d⟩] concatenates_S256x128_S256x8192_S256x8320_d1
/-- The fallback's indices. -/
def fullI (ri : IVec S256x128 32) (base : BitVec 32) : IVec S256x8320 32 :=
  concatenate S256x8320 1 [⟨S256x128, ri⟩, ⟨S256x8192, addi (broadcast S256x8192 base) (iota .tc S256x8192 32 [1] iota_S256x8192_d1_w32)⟩]
    concatenates_S256x128_S256x8192_S256x8320_d1
/-- The least value. -/
def fullMin (x : FVec F S256x8320 .f32) : FVec F S256x1 .f32 :=
  shapeCast S256x1 (multiReduction .minimumf [1] S256 x 0x7F800000#32 reduces_S256x8320_S256 (.inl rfl) rfl) shapeCasts_S256_S256x1
/-- The least index at which the least value stands. -/
def fullIdx (wi : IVec S256x8320 32) (x : FVec F S256x8320 .f32) : IVec S256x1 32 :=
  shapeCast S256x1 (multiReductionI .minsi [1] S256 (select (cmpf .oeq x (broadcastTo S256x8320 (fullMin x) broadcasts_S256x1_S256x8320)) wi
    (broadcast S256x8320 2147483647#32)) 2147483647#32 reduces_S256x8320_S256 rfl) shapeCasts_S256_S256x1
/-- The values with those of the chosen index removed. -/
def fullNext (wi : IVec S256x8320 32) (x : FVec F S256x8320 .f32) : FVec F S256x8320 .f32 :=
  select (cmpi .eq wi (broadcastTo S256x8320 (fullIdx wi x) broadcasts_S256x1_S256x8320))
    (broadcast S256x8320 (Scalar.ofBits .f32 0x7F800000#32)) x
/-- The values after `n` rounds. -/
def fullAt (wi : IVec S256x8320 32) (x : FVec F S256x8320 .f32) : ℕ → FVec F S256x8320 .f32
  | 0 => x
  | n + 1 => fullNext wi (fullAt wi x n)
/-- The ten chosen values of the fallback, then plus infinities. -/
def packV' (f : ℕ → FVec F S256x1 .f32) : FVec F S256x128 .f32 :=
  shapeCast S256x128 (concatenate S256x128 1 [⟨S256x1, f 0⟩, ⟨S256x1, f 1⟩, ⟨S256x1, f 2⟩,
      ⟨S256x1, f 3⟩, ⟨S256x1, f 4⟩, ⟨S256x1, f 5⟩, ⟨S256x1, f 6⟩, ⟨S256x1, f 7⟩, ⟨S256x1, f 8⟩, ⟨S256x1, f 9⟩,
      ⟨S256x118, broadcast S256x118 (Scalar.ofBits .f32 0x7F800000#32)⟩]
      concatenates_S256x1_S256x1_S256x1_S256x1_S256x1_S256x1_S256x1_S256x1_S256x1_S256x1_S256x118_S256x128_d1) shapeCasts_S256x128_S256x128
/-- The ten chosen indices of the fallback, then minus ones. -/
def packI' (f : ℕ → IVec S256x1 32) : IVec S256x128 32 :=
  shapeCast S256x128 (concatenate S256x128 1 [⟨S256x1, f 0⟩, ⟨S256x1, f 1⟩, ⟨S256x1, f 2⟩,
      ⟨S256x1, f 3⟩, ⟨S256x1, f 4⟩, ⟨S256x1, f 5⟩, ⟨S256x1, f 6⟩, ⟨S256x1, f 7⟩, ⟨S256x1, f 8⟩, ⟨S256x1, f 9⟩,
      ⟨S256x118, broadcast S256x118 4294967295#32⟩]
      concatenates_S256x1_S256x1_S256x1_S256x1_S256x1_S256x1_S256x1_S256x1_S256x1_S256x1_S256x118_S256x128_d1) shapeCasts_S256x128_S256x128

/-! ## One grid point as a function -/

/-- The scores of a block of keys: the squared norm of the key plus the product with the query. -/
def scores (q : FVec F S256x128 .f32) (k : FVec F S128x8192 .f32) : FVec F S256x8192 .f32 := k0_pay40 q k

/-- The number of the block's first key. -/
def baseOf (i : grid0.Coords) : BitVec 32 := Scalar.muli (BitVec.ofNat 32 (i 1).val) 8192#32

/-- The lane numbers. -/
def lanes : IVec S256x128 32 := iota .tc S256x128 32 [1] iota_S256x128_d1_w32

/-- The stacks of the whole block. -/
def blockStack (i : grid0.Coords) (q : FVec F S256x128 .f32) (k : FVec F S128x8192 .f32) : Stack F :=
  stackAt (scores q k) (baseOf i) lanes 64

/-- The selection after `n` rounds. -/
def blockSel (i : grid0.Coords) (q : FVec F S256x128 .f32) (k : FVec F S128x8192 .f32) (rv : FVec F S256x128 .f32) (ri : IVec S256x128 32)
    (n : ℕ) : Sel F := selAt ri (Sel.start rv (blockStack i q k)) n

/-- Whether the fallback runs. -/
def blockOvf (i : grid0.Coords) (q : FVec F S256x128 .f32) (k : FVec F S128x8192 .f32) (rv : FVec F S256x128 .f32) (ri : IVec S256x128 32) : Prop :=
  overflow (blockStack i q k).m4 (blockSel i q k rv ri 9).val (blockSel i q k rv ri 10).pc

open Classical in
/-- The running values after a block. -/
def stepV (i : grid0.Coords) (q : FVec F S256x128 .f32) (k : FVec F S128x8192 .f32) (rv : FVec F S256x128 .f32) (ri : IVec S256x128 32) :
    FVec F S256x128 .f32 :=
  if blockOvf i q k rv ri then packV' fun n => fullMin (fullAt (fullI ri (baseOf i)) (fullV rv (scores q k)) n)
  else packV fun n => (blockSel i q k rv ri n).val

open Classical in
/-- The running indices after a block. -/
def stepI (i : grid0.Coords) (q : FVec F S256x128 .f32) (k : FVec F S128x8192 .f32) (rv : FVec F S256x128 .f32) (ri : IVec S256x128 32) :
    IVec S256x128 32 :=
  if blockOvf i q k rv ri then packI' fun n => fullIdx (fullI ri (baseOf i)) (fullAt (fullI ri (baseOf i)) (fullV rv (scores q k)) n)
  else packI fun n => (blockSel i q k rv ri n).idx ri

/-- The running values before the first block. -/
def initV : FVec F S256x128 .f32 := shapeCast S256x128 infs shapeCasts_S256x128_S256x128
/-- The running indices before the first block. -/
def initI : IVec S256x128 32 := shapeCast S256x128 negs shapeCasts_S256x128_S256x128

/-- The distances from the running values. -/
def distV (q : FVec F S256x128 .f32) (rv : FVec F S256x128 .f32) : FVec F S256x128 .f32 := k0_pay10 (k0_pay39 q) rv

end Cert.TopK

end
-- ==== Proof.Parts.lean ====
module

public import proofs.«01_k».proof.Proof.Steps
public import Idealize.ShloMosaic.Lib.Pipeline.Regions

@[expose] public section

set_option maxRecDepth 65536

noncomputable section

namespace Cert.KernelIdeal.Gen

open Idealize.ShloMosaic Idealize.ShloMosaic.TcCoe Idealize.SL.Sem
open Cert.TopK

variable {F : FTy → Type} [FloatOps F]

/-- What a printed stretch of three lane groups returns. -/
abbrev Ins (F : FTy → Type) := (Σ' (_ : FVec F S256x128 .f32) (_ : FVec F S256x128 .f32) (_ : IVec S256x128 32) (_ : FVec F S256x128 .f32)
  (_ : IVec S256x128 32) (_ : FVec F S256x128 .f32) (_ : IVec S256x128 32), FVec F S256x128 .f32)

/-- The stack after `n` groups as a stretch passes it on: the last dropped value not yet taken into the least. -/
def insOut (d : FVec F S256x8192 .f32) (b : BitVec 32) (l : IVec S256x128 32) (n : ℕ) : Ins F :=
  ⟨(stackAt d b l (n - 1)).m4, (stackAt d b l n).v0, (stackAt d b l n).i0, (stackAt d b l n).v1, (stackAt d b l n).i1, (stackAt d b l n).v2,
    (stackAt d b l n).i2, (stackAt d b l (n - 1)).fall (grpV d (n - 1))⟩

/-- The stretch `p` inserts lane groups `n`, `n + 1` and `n + 2` into any stack. -/
def InsPart (p : FVec F S256x8192 .f32 → BitVec 32 → IVec S256x128 32 → FVec F S256x128 .f32 → FVec F S256x128 .f32 → IVec S256x128 32 → FVec F S256x128 .f32 → IVec S256x128 32 → FVec F S256x128 .f32 → IVec S256x128 32 → FVec F S256x128 .f32 →
    Prog (TpuEff nD τ sig (Elt F) Λ₀ .tc) (Ins F)) (n : ℕ) : Prop :=
  ∀ (d : FVec F S256x8192 .f32) (b : BitVec 32) (l : IVec S256x128 32) (m w : FVec F S256x128 .f32) (s : Stack F), minimumf m w = s.m4 →
    p d b l m s.v0 s.i0 s.v1 s.i1 s.v2 s.i2 w =
      pure (let s2 := (s.step d b l n).step d b l (n + 1)
        let s3 := s2.step d b l (n + 2)
        ⟨s2.m4, s3.v0, s3.i0, s3.v1, s3.i1, s3.v2, s3.i2, s2.fall (grpV d (n + 2))⟩)

/-- The stretch `p`, begun after `n` lane groups of a block, ends after `n + 3`. -/
def InsAt (p : FVec F S256x8192 .f32 → BitVec 32 → IVec S256x128 32 → FVec F S256x128 .f32 → FVec F S256x128 .f32 → IVec S256x128 32 → FVec F S256x128 .f32 → IVec S256x128 32 → FVec F S256x128 .f32 → IVec S256x128 32 → FVec F S256x128 .f32 →
    Prog (TpuEff nD τ sig (Elt F) Λ₀ .tc) (Ins F)) (n : ℕ) : Prop :=
  ∀ (d : FVec F S256x8192 .f32) (b : BitVec 32) (l : IVec S256x128 32),
    p d b l (stackAt d b l (n - 1)).m4 (stackAt d b l n).v0 (stackAt d b l n).i0 (stackAt d b l n).v1 (stackAt d b l n).i1
      (stackAt d b l n).v2 (stackAt d b l n).i2 ((stackAt d b l (n - 1)).fall (grpV d (n - 1))) = pure (insOut d b l (n + 3))

/-- A stretch that inserts three groups into any stack does so into the stack reached before it. -/
theorem InsPart.at {p : FVec F S256x8192 .f32 → BitVec 32 → IVec S256x128 32 → FVec F S256x128 .f32 → FVec F S256x128 .f32 → IVec S256x128 32 → FVec F S256x128 .f32 → IVec S256x128 32 → FVec F S256x128 .f32 → IVec S256x128 32 → FVec F S256x128 .f32 →
    Prog (TpuEff nD τ sig (Elt F) Λ₀ .tc) (Ins F)} {n : ℕ} (h : InsPart p (n + 1)) : InsAt p (n + 1) := fun d b l =>
  h d b l _ _ (stackAt d b l (n + 1)) rfl

variable (i : grid0.Coords) (arg2 : Memref sig .tc .vmem S256x128 .f32) (harg2 : arg2.IsWhole)
  (arg3 : Memref sig .tc .vmem S128x8192 .f32) (harg3 : arg3.IsWhole) (arg4 : Memref sig .tc .vmem S256x128 .f32) (harg4 : arg4.IsWhole)
  (arg5 : Memref sig .tc .vmem S256x128 .i32) (harg5 : arg5.IsWhole) (arg6 : Memref sig .tc .vmem S256x128 .f32) (harg6 : arg6.IsWhole)
  (arg7 : Memref sig .tc .vmem S256x128 .i32) (harg7 : arg7.IsWhole)

/-- This stretch inserts lane groups 1 to 3. -/
theorem part4_at : InsAt (F := F) (k0_part4 i arg2 harg2 arg3 harg3 arg4 harg4 arg5 harg5 arg6 harg6 arg7 harg7) 1 :=
  InsPart.at (n := 0) fun _ _ _ _ _ s h => by cases s; obtain rfl := h; rfl

/-- This stretch inserts lane groups 4 to 6. -/
theorem part5_at : InsAt (F := F) (k0_part5 i arg2 harg2 arg3 harg3 arg4 harg4 arg5 harg5 arg6 harg6 arg7 harg7) 4 :=
  InsPart.at (n := 3) fun _ _ _ _ _ s h => by cases s; obtain rfl := h; rfl

/-- This stretch inserts lane groups 7 to 9. -/
theorem part6_at : InsAt (F := F) (k0_part6 i arg2 harg2 arg3 harg3 arg4 harg4 arg5 harg5 arg6 harg6 arg7 harg7) 7 :=
  InsPart.at (n := 6) fun _ _ _ _ _ s h => by cases s; obtain rfl := h; rfl

/-- This stretch inserts lane groups 10 to 12. -/
theorem part7_at : InsAt (F := F) (k0_part7 i arg2 harg2 arg3 harg3 arg4 harg4 arg5 harg5 arg6 harg6 arg7 harg7) 10 :=
  InsPart.at (n := 9) fun _ _ _ _ _ s h => by cases s; obtain rfl := h; rfl

/-- This stretch inserts lane groups 13 to 15. -/
theorem part8_at : InsAt (F := F) (k0_part8 i arg2 harg2 arg3 harg3 arg4 harg4 arg5 harg5 arg6 harg6 arg7 harg7) 13 :=
  InsPart.at (n := 12) fun _ _ _ _ _ s h => by cases s; obtain rfl := h; rfl

/-- This stretch inserts lane groups 16 to 18. -/
theorem part9_at : InsAt (F := F) (k0_part9 i arg2 harg2 arg3 harg3 arg4 harg4 arg5 harg5 arg6 harg6 arg7 harg7) 16 :=
  InsPart.at (n := 15) fun _ _ _ _ _ s h => by cases s; obtain rfl := h; rfl

/-- This stretch inserts lane groups 19 to 21. -/
theorem part10_at : InsAt (F := F) (k0_part10 i arg2 harg2 arg3 harg3 arg4 harg4 arg5 harg5 arg6 harg6 arg7 harg7) 19 :=
  InsPart.at (n := 18) fun _ _ _ _ _ s h => by cases s; obtain rfl := h; rfl

/-- This stretch inserts lane groups 22 to 24. -/
theorem part11_at : InsAt (F := F) (k0_part11 i arg2 harg2 arg3 harg3 arg4 harg4 arg5 harg5 arg6 harg6 arg7 harg7) 22 :=
  InsPart.at (n := 21) fun _ _ _ _ _ s h => by cases s; obtain rfl := h; rfl

/-- This stretch inserts lane groups 25 to 27. -/
theorem part12_at : InsAt (F := F) (k0_part12 i arg2 harg2 arg3 harg3 arg4 harg4 arg5 harg5 arg6 harg6 arg7 harg7) 25 :=
  InsPart.at (n := 24) fun _ _ _ _ _ s h => by cases s; obtain rfl := h; rfl

/-- This stretch inserts lane groups 28 to 30. -/
theorem part13_at : InsAt (F := F) (k0_part13 i arg2 harg2 arg3 harg3 arg4 harg4 arg5 harg5 arg6 harg6 arg7 harg7) 28 :=
  InsPart.at (n := 27) fun _ _ _ _ _ s h => by cases s; obtain rfl := h; rfl

/-- This stretch inserts lane groups 31 to 33. -/
theorem part14_at : InsAt (F := F) (k0_part14 i arg2 harg2 arg3 harg3 arg4 harg4 arg5 harg5 arg6 harg6 arg7 harg7) 31 :=
  InsPart.at (n := 30) fun _ _ _ _ _ s h => by cases s; obtain rfl := h; rfl

/-- This stretch inserts lane groups 34 to 36. -/
theorem part15_at : InsAt (F := F) (k0_part15 i arg2 harg2 arg3 harg3 arg4 harg4 arg5 harg5 arg6 harg6 arg7 harg7) 34 :=
  InsPart.at (n := 33) fun _ _ _ _ _ s h => by cases s; obtain rfl := h; rfl

/-- This stretch inserts lane groups 37 to 39. -/
theorem part16_at : InsAt (F := F) (k0_part16 i arg2 harg2 arg3 harg3 arg4 harg4 arg5 harg5 arg6 harg6 arg7 harg7) 37 :=
  InsPart.at (n := 36) fun _ _ _ _ _ s h => by cases s; obtain rfl := h; rfl

/-- This stretch inserts lane groups 40 to 42. -/
theorem part17_at : InsAt (F := F) (k0_part17 i arg2 harg2 arg3 harg3 arg4 harg4 arg5 harg5 arg6 harg6 arg7 harg7) 40 :=
  InsPart.at (n := 39) fun _ _ _ _ _ s h => by cases s; obtain rfl := h; rfl

/-- This stretch inserts lane groups 43 to 45. -/
theorem part18_at : InsAt (F := F) (k0_part18 i arg2 harg2 arg3 harg3 arg4 harg4 arg5 harg5 arg6 harg6 arg7 harg7) 43 :=
  InsPart.at (n := 42) fun _ _ _ _ _ s h => by cases s; obtain rfl := h; rfl

/-- This stretch inserts lane groups 46 to 48. -/
theorem part19_at : InsAt (F := F) (k0_part19 i arg2 harg2 arg3 harg3 arg4 harg4 arg5 harg5 arg6 harg6 arg7 harg7) 46 :=
  InsPart.at (n := 45) fun _ _ _ _ _ s h => by cases s; obtain rfl := h; rfl

/-- This stretch inserts lane groups 49 to 51. -/
theorem part20_at : InsAt (F := F) (k0_part20 i arg2 harg2 arg3 harg3 arg4 harg4 arg5 harg5 arg6 harg6 arg7 harg7) 49 :=
  InsPart.at (n := 48) fun _ _ _ _ _ s h => by cases s; obtain rfl := h; rfl

/-- This stretch inserts lane groups 52 to 54. -/
theorem part21_at : InsAt (F := F) (k0_part21 i arg2 harg2 arg3 harg3 arg4 harg4 arg5 harg5 arg6 harg6 arg7 harg7) 52 :=
  InsPart.at (n := 51) fun _ _ _ _ _ s h => by cases s; obtain rfl := h; rfl

/-- This stretch inserts lane groups 55 to 57. -/
theorem part22_at : InsAt (F := F) (k0_part22 i arg2 harg2 arg3 harg3 arg4 harg4 arg5 harg5 arg6 harg6 arg7 harg7) 55 :=
  InsPart.at (n := 54) fun _ _ _ _ _ s h => by cases s; obtain rfl := h; rfl

/-- This stretch inserts lane groups 58 to 60. -/
theorem part23_at : InsAt (F := F) (k0_part23 i arg2 harg2 arg3 harg3 arg4 harg4 arg5 harg5 arg6 harg6 arg7 harg7) 58 :=
  InsPart.at (n := 57) fun _ _ _ _ _ s h => by cases s; obtain rfl := h; rfl

/-- This stretch inserts lane groups 61 to 63. -/
theorem part24_at : InsAt (F := F) (k0_part24 i arg2 harg2 arg3 harg3 arg4 harg4 arg5 harg5 arg6 harg6 arg7 harg7) 61 :=
  InsPart.at (n := 60) fun _ _ _ _ _ s h => by cases s; obtain rfl := h; rfl

/-- At the first block of keys the scratch is set to infinities and minus ones. -/
def initProg : Prog (TpuEff nD τ sig (Elt F) Λ₀ .tc) PUnit :=
  if Scalar.cmpi .ne (Scalar.extui (Scalar.cmpi .eq (BitVec.ofNat 32 (i 1).val) 0#32)) 0#32 = 1#1 then do
    let _ ← Prog.lift (.load arg6 (Rect.unit (s := S256x128) ![0, 0] S256x128.size inb_S256x128_S256x128_0_0).toLoadRect (View.loadsAt_vmem h_S256x128))
    Prog.lift (.store arg6 (Rect.unit (s := S256x128) ![0, 0] S256x128.size inb_S256x128_S256x128_0_0) initV Finset.univ (View.stores_vmem_bits_univ h_S256x128 rfl) (.inl rfl))
    let _ ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) initI Finset.univ (View.stores_vmem_bits_univ h_S256x128 rfl) (.inl rfl))
  else pure ⟨⟩

/-- The first stretch: the scratch is set at the first block, the query and key tiles are read, the first lane group is inserted. -/
theorem part3_eq : k0_part3 (F := F) i arg2 harg2 arg3 harg3 arg4 harg4 arg5 harg5 arg6 harg6 arg7 harg7 = initProg (F := F) i arg6 arg7 >>= (fun _ => do
    let q : Vec F S256x128 .f32 ← Prog.lift (.load arg2 (Rect.unit (s := S256x128) ![0, 0] S256x128.size inb_S256x128_S256x128_0_0).toLoadRect (View.loadsAt_vmem h_S256x128))
    let k : Vec F S128x8192 .f32 ← Prog.lift (.load arg3 (Rect.unit (s := S128x8192) ![0, 0] S128x8192.size inb_S128x8192_S128x8192_0_0).toLoadRect (View.loadsAt_vmem h_S128x8192))
    pure ⟨BitVec.ofNat 32 (i 1).val, k0_pay39 q, scores q k, baseOf i, lanes, (stackAt (scores q k) (baseOf i) lanes (1 - 1)).m4,
      (stackAt (scores q k) (baseOf i) lanes 1).v0, (stackAt (scores q k) (baseOf i) lanes 1).i0, (stackAt (scores q k) (baseOf i) lanes 1).v1,
      (stackAt (scores q k) (baseOf i) lanes 1).i1, (stackAt (scores q k) (baseOf i) lanes 1).v2, (stackAt (scores q k) (baseOf i) lanes 1).i2,
      (stackAt (scores q k) (baseOf i) lanes (1 - 1)).fall (grpV (scores q k) (1 - 1))⟩) := by
  rw [k0_part3_eq_skeleton]
  unfold k0_part3_skel initProg
  by_cases h : Scalar.cmpi .ne (Scalar.extui (Scalar.cmpi .eq (BitVec.ofNat 32 (i 1).val) 0#32)) 0#32 = 1#1
  · rw [if_pos h]; simp only [dif_pos h]; chain_rfl
  · rw [if_neg h]; simp only [dif_neg h]; chain_rfl

/-- The two first rounds of the selection, after the running values and indices are read. -/
theorem part25_eq (m w : FVec F S256x128 .f32) (s : Stack F) : k0_part25 (F := F) i arg2 harg2 arg3 harg3 arg4 harg4 arg5 harg5 arg6 harg6 arg7 harg7 m s.v0 s.i0 s.v1 s.i1 s.v2 s.i2 w = (do
    let rv : Vec F S256x128 .f32 ← Prog.lift (.load arg6 (Rect.unit (s := S256x128) ![0, 0] S256x128.size inb_S256x128_S256x128_0_0).toLoadRect (View.loadsAt_vmem h_S256x128))
    let ri : Vec F S256x128 .i32 ← Prog.lift (.load arg7 (Rect.unit (s := S256x128) ![0, 0] S256x128.size inb_S256x128_S256x128_0_0).toLoadRect (View.loadsAt_vmem h_S256x128))
    pure ⟨minimumf m w, rv, ri, (selAt ri (Sel.start rv s) 0).val, (selAt ri (Sel.start rv s) 0).idx ri,
      (selAt ri (Sel.start rv s) 1).v0, (selAt ri (Sel.start rv s) 1).i0, (selAt ri (Sel.start rv s) 1).v1, (selAt ri (Sel.start rv s) 1).i1, (selAt ri (Sel.start rv s) 1).v2, (selAt ri (Sel.start rv s) 1).i2, (selAt ri (Sel.start rv s) 1).pc,
      (selAt ri (Sel.start rv s) 1).val, (selAt ri (Sel.start rv s) 1).idx ri, (selAt ri (Sel.start rv s) 2).rv,
      (selAt ri (Sel.start rv s) 1).sel ri⟩) := by chain_rfl

/-- The third and fourth rounds of the selection, -/
theorem part26_eq (ri : IVec S256x128 32) (s : Sel F) :
    k0_part26 (F := F) i arg2 harg2 arg3 harg3 arg4 harg4 arg5 harg5 arg6 harg6 arg7 harg7 ri (selAt ri s 1).v0 (selAt ri s 1).i0 (selAt ri s 1).v1 (selAt ri s 1).i1 (selAt ri s 1).v2 (selAt ri s 1).i2 (selAt ri s 1).pc (selAt ri s 2).rv ((selAt ri s 1).sel ri) =
      pure ⟨(selAt ri s 2).val, (selAt ri s 2).idx ri, (selAt ri s 3).rv, (selAt ri s 3).v0, (selAt ri s 3).i0, (selAt ri s 3).v1, (selAt ri s 3).i1, (selAt ri s 3).v2, (selAt ri s 3).i2, (selAt ri s 3).pc, (selAt ri s 3).val, (selAt ri s 3).idx ri, cmpi .eq ri ((selAt ri s 3).sel ri)⟩ := by chain_rfl

/-- the fifth and sixth, -/
theorem part27_eq (ri : IVec S256x128 32) (s : Sel F) :
    k0_part27 (F := F) i arg2 harg2 arg3 harg3 arg4 harg4 arg5 harg5 arg6 harg6 arg7 harg7 ri (selAt ri s 3).rv (selAt ri s 3).v0 (selAt ri s 3).i0 (selAt ri s 3).v1 (selAt ri s 3).i1 (selAt ri s 3).v2 (selAt ri s 3).i2 (selAt ri s 3).pc ((selAt ri s 3).idx ri) (cmpi .eq ri ((selAt ri s 3).sel ri)) =
      pure ⟨(selAt ri s 4).val, (selAt ri s 4).idx ri, (selAt ri s 5).rv, (selAt ri s 5).v0, (selAt ri s 5).i0, (selAt ri s 5).v1, (selAt ri s 5).i1, (selAt ri s 5).v2, (selAt ri s 5).i2, (selAt ri s 5).pc, (selAt ri s 5).val, (selAt ri s 5).cand ri⟩ := by chain_rfl

/-- the seventh and eighth, -/
theorem part28_eq (ri : IVec S256x128 32) (s : Sel F) :
    k0_part28 (F := F) i arg2 harg2 arg3 harg3 arg4 harg4 arg5 harg5 arg6 harg6 arg7 harg7 ri (selAt ri s 5).rv (selAt ri s 5).v0 (selAt ri s 5).i0 (selAt ri s 5).v1 (selAt ri s 5).i1 (selAt ri s 5).v2 (selAt ri s 5).i2 (selAt ri s 5).pc ((selAt ri s 5).cand ri) =
      pure ⟨(selAt ri s 5).idx ri, (selAt ri s 6).val, (selAt ri s 6).idx ri, (selAt ri s 7).rv, (selAt ri s 7).v0, (selAt ri s 7).i0, (selAt ri s 7).v1, (selAt ri s 7).i1, (selAt ri s 7).v2, (selAt ri s 7).i2, (selAt ri s 7).pc, (selAt ri s 7).wi ri, (selAt ri s 7).val, (selAt ri s 7).eqs⟩ := by chain_rfl

/-- and the last two. -/
theorem part29_eq (ri : IVec S256x128 32) (s : Sel F) :
    k0_part29 (F := F) i arg2 harg2 arg3 harg3 arg4 harg4 arg5 harg5 arg6 harg6 arg7 harg7 ri (selAt ri s 7).rv (selAt ri s 7).v0 (selAt ri s 7).i0 (selAt ri s 7).v1 (selAt ri s 7).i1 (selAt ri s 7).v2 (selAt ri s 7).i2 (selAt ri s 7).pc ((selAt ri s 7).wi ri) (selAt ri s 7).eqs =
      pure ⟨(selAt ri s 7).idx ri, (selAt ri s 8).val, (selAt ri s 8).idx ri, (selAt ri s 9).val, (selAt ri s 9).idx ri, (selAt ri s 10).pc⟩ := by chain_rfl

/-- The fallback's first rounds. -/
theorem part1_eq (d : FVec F S256x8192 .f32) (b : BitVec 32) (rv : FVec F S256x128 .f32) (ri : IVec S256x128 32) :
    k0_part1 (F := F) i arg2 harg2 arg3 harg3 arg4 harg4 arg5 harg5 arg6 harg6 arg7 harg7 d b rv ri =
      pure ⟨(fullI ri b), fullMin (fullAt (fullI ri b) (fullV rv d) 0), fullIdx (fullI ri b) (fullAt (fullI ri b) (fullV rv d) 0), fullMin (fullAt (fullI ri b) (fullV rv d) 1), fullIdx (fullI ri b) (fullAt (fullI ri b) (fullV rv d) 1), fullMin (fullAt (fullI ri b) (fullV rv d) 2), fullIdx (fullI ri b) (fullAt (fullI ri b) (fullV rv d) 2), (fullAt (fullI ri b) (fullV rv d) 3), fullMin (fullAt (fullI ri b) (fullV rv d) 3),
        cmpf .oeq (fullAt (fullI ri b) (fullV rv d) 3) (broadcastTo S256x8320 (fullMin (fullAt (fullI ri b) (fullV rv d) 3)) broadcasts_S256x1_S256x8320), broadcast S256x8320 2147483647#32⟩ := by chain_rfl

/-- The fallback's next rounds. -/
theorem part2_eq (d : FVec F S256x8192 .f32) (b : BitVec 32) (rv : FVec F S256x128 .f32) (ri : IVec S256x128 32) :
    k0_part2 (F := F) i arg2 harg2 arg3 harg3 arg4 harg4 arg5 harg5 arg6 harg6 arg7 harg7 (fullI ri b) (fullAt (fullI ri b) (fullV rv d) 3) (cmpf .oeq (fullAt (fullI ri b) (fullV rv d) 3) (broadcastTo S256x8320 (fullMin (fullAt (fullI ri b) (fullV rv d) 3)) broadcasts_S256x1_S256x8320))
      (broadcast S256x8320 2147483647#32) =
      pure ⟨fullIdx (fullI ri b) (fullAt (fullI ri b) (fullV rv d) 3), fullMin (fullAt (fullI ri b) (fullV rv d) 4), fullIdx (fullI ri b) (fullAt (fullI ri b) (fullV rv d) 4), fullMin (fullAt (fullI ri b) (fullV rv d) 5), fullIdx (fullI ri b) (fullAt (fullI ri b) (fullV rv d) 5), fullMin (fullAt (fullI ri b) (fullV rv d) 6), fullIdx (fullI ri b) (fullAt (fullI ri b) (fullV rv d) 6), (fullAt (fullI ri b) (fullV rv d) 7), fullMin (fullAt (fullI ri b) (fullV rv d) 7)⟩ := by chain_rfl

/-- The fallback's ten values packed into the running values, -/
theorem packV'_eq (d : FVec F S256x8192 .f32) (b : BitVec 32) (rv : FVec F S256x128 .f32) (ri : IVec S256x128 32) :
    k0_pay8 (k0_pay1047 (F := F)) (fullI ri b) (fullMin (fullAt (fullI ri b) (fullV rv d) 0)) (fullMin (fullAt (fullI ri b) (fullV rv d) 1)) (fullMin (fullAt (fullI ri b) (fullV rv d) 2)) (fullMin (fullAt (fullI ri b) (fullV rv d) 3)) (fullMin (fullAt (fullI ri b) (fullV rv d) 4)) (fullMin (fullAt (fullI ri b) (fullV rv d) 5)) (fullMin (fullAt (fullI ri b) (fullV rv d) 6)) (fullAt (fullI ri b) (fullV rv d) 7) (fullMin (fullAt (fullI ri b) (fullV rv d) 7)) =
      packV' fun n => fullMin (fullAt (fullI ri b) (fullV rv d) n) := by chain_rfl

/-- and its ten indices into the running indices. -/
theorem packI'_eq (d : FVec F S256x8192 .f32) (b : BitVec 32) (rv : FVec F S256x128 .f32) (ri : IVec S256x128 32) :
    k0_pay9 (F := F) k0_pay1048 (fullI ri b) (fullIdx (fullI ri b) (fullAt (fullI ri b) (fullV rv d) 0)) (fullIdx (fullI ri b) (fullAt (fullI ri b) (fullV rv d) 1)) (fullIdx (fullI ri b) (fullAt (fullI ri b) (fullV rv d) 2)) (fullIdx (fullI ri b) (fullAt (fullI ri b) (fullV rv d) 3)) (fullIdx (fullI ri b) (fullAt (fullI ri b) (fullV rv d) 4)) (fullIdx (fullI ri b) (fullAt (fullI ri b) (fullV rv d) 5)) (fullIdx (fullI ri b) (fullAt (fullI ri b) (fullV rv d) 6)) (fullAt (fullI ri b) (fullV rv d) 7) (fullMin (fullAt (fullI ri b) (fullV rv d) 7)) =
      packI' fun n => fullIdx (fullI ri b) (fullAt (fullI ri b) (fullV rv d) n) := by chain_rfl

/-- The printed test of the fallback is `overflow`. -/
theorem ovf_iff (m : FVec F S256x128 .f32) (tau : FVec F S256x1 .f32) (pc : IVec S256x128 32) :
    (Scalar.cmpi .ne (Scalar.extui (Scalar.cmpf .ogt (k0_pay1 (k0_pay1051 m tau pc)) (Scalar.ofBits .f32 0x00000000#32))) 0#32 = 1#1) =
      overflow m tau pc := by chain_rfl

end Cert.KernelIdeal.Gen

end
-- ==== Proof.Body.lean ====
module

public import proofs.«01_k».proof.Proof.Parts

@[expose] public section

set_option maxRecDepth 65536

noncomputable section

namespace Cert.KernelIdeal.Gen

open Idealize.ShloMosaic Idealize.ShloMosaic.TcCoe Idealize.SL.Sem
open Cert.TopK

variable {F : FTy → Type} [FloatOps F]

variable (i : grid0.Coords) (arg2 : Memref sig .tc .vmem S256x128 .f32) (harg2 : arg2.IsWhole)
  (arg3 : Memref sig .tc .vmem S128x8192 .f32) (harg3 : arg3.IsWhole) (arg4 : Memref sig .tc .vmem S256x128 .f32) (harg4 : arg4.IsWhole)
  (arg5 : Memref sig .tc .vmem S256x128 .i32) (harg5 : arg5.IsWhole) (arg6 : Memref sig .tc .vmem S256x128 .f32) (harg6 : arg6.IsWhole)
  (arg7 : Memref sig .tc .vmem S256x128 .i32) (harg7 : arg7.IsWhole)

open Classical in
/-- The fallback, run where the selection from the stacks may have missed a value. -/
def fallProg (q : FVec F S256x128 .f32) (k : FVec F S128x8192 .f32) (rv : FVec F S256x128 .f32) (ri : IVec S256x128 32) : Prog (TpuEff nD τ sig (Elt F) Λ₀ .tc) PUnit :=
  if blockOvf i q k rv ri then do
    let _ ← Prog.lift (.load arg6 (Rect.unit (s := S256x128) ![0, 0] S256x128.size inb_S256x128_S256x128_0_0).toLoadRect (View.loadsAt_vmem h_S256x128))
    Prog.lift (.store arg6 (Rect.unit (s := S256x128) ![0, 0] S256x128.size inb_S256x128_S256x128_0_0) (packV' fun n => fullMin (fullAt (fullI ri (baseOf i)) (fullV rv (scores q k)) n)) Finset.univ (View.stores_vmem_bits_univ h_S256x128 rfl) (.inl rfl))
    let _ ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (packI' fun n => fullIdx (fullI ri (baseOf i)) (fullAt (fullI ri (baseOf i)) (fullV rv (scores q k)) n)) Finset.univ (View.stores_vmem_bits_univ h_S256x128 rfl) (.inl rfl))
  else pure ⟨⟩

/-- At the last block of keys the results are written. -/
def emitProg (q : FVec F S256x128 .f32) : Prog (TpuEff nD τ sig (Elt F) Λ₀ .tc) PUnit :=
  if k0_cond3 i = 1#1 then do
    let rv' : Vec F S256x128 .f32 ← Prog.lift (.load arg6 (Rect.unit (s := S256x128) ![0, 0] S256x128.size inb_S256x128_S256x128_0_0).toLoadRect (View.loadsAt_vmem h_S256x128))
    let _ ← Prog.lift (.load arg4 (Rect.unit (s := S256x128) ![0, 0] S256x128.size inb_S256x128_S256x128_0_0).toLoadRect (View.loadsAt_vmem h_S256x128))
    Prog.lift (.store arg4 (Rect.unit (s := S256x128) ![0, 0] S256x128.size inb_S256x128_S256x128_0_0) (distV q rv') Finset.univ (View.stores_vmem_bits_univ h_S256x128 rfl) (.inl rfl))
    let ri' : Vec F S256x128 .i32 ← Prog.lift (.load arg7 (Rect.unit (s := S256x128) ![0, 0] S256x128.size inb_S256x128_S256x128_0_0).toLoadRect (View.loadsAt_vmem h_S256x128))
    let _ ← Prog.lift (.load arg5 (Rect.unit (s := S256x128) ![0, 0] S256x128.size inb_S256x128_S256x128_0_0).toLoadRect (View.loadsAt_vmem h_S256x128))
    Prog.lift (.store arg5 (Rect.unit (s := S256x128) ![0, 0] S256x128.size inb_S256x128_S256x128_0_0) ri' Finset.univ (View.stores_vmem_bits_univ h_S256x128 rfl) (.inl rfl))
  else pure ⟨⟩

/-- One grid point's program over the functions of the steps. -/
def body : Prog (TpuEff nD τ sig (Elt F) Λ₀ .tc) PUnit :=
  initProg i arg6 arg7 >>= fun _ => do
    let q : Vec F S256x128 .f32 ← Prog.lift (.load arg2 (Rect.unit (s := S256x128) ![0, 0] S256x128.size inb_S256x128_S256x128_0_0).toLoadRect (View.loadsAt_vmem h_S256x128))
    let k : Vec F S128x8192 .f32 ← Prog.lift (.load arg3 (Rect.unit (s := S128x8192) ![0, 0] S128x8192.size inb_S128x8192_S128x8192_0_0).toLoadRect (View.loadsAt_vmem h_S128x8192))
    let rv : Vec F S256x128 .f32 ← Prog.lift (.load arg6 (Rect.unit (s := S256x128) ![0, 0] S256x128.size inb_S256x128_S256x128_0_0).toLoadRect (View.loadsAt_vmem h_S256x128))
    let ri : Vec F S256x128 .i32 ← Prog.lift (.load arg7 (Rect.unit (s := S256x128) ![0, 0] S256x128.size inb_S256x128_S256x128_0_0).toLoadRect (View.loadsAt_vmem h_S256x128))
    let _ ← Prog.lift (.load arg6 (Rect.unit (s := S256x128) ![0, 0] S256x128.size inb_S256x128_S256x128_0_0).toLoadRect (View.loadsAt_vmem h_S256x128))
    Prog.lift (.store arg6 (Rect.unit (s := S256x128) ![0, 0] S256x128.size inb_S256x128_S256x128_0_0) (packV fun n => (blockSel i q k rv ri n).val) Finset.univ (View.stores_vmem_bits_univ h_S256x128 rfl) (.inl rfl))
    let _ ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (packI fun n => (blockSel i q k rv ri n).idx ri) Finset.univ (View.stores_vmem_bits_univ h_S256x128 rfl) (.inl rfl))
    fallProg i arg6 arg7 q k rv ri
    emitProg i arg4 arg5 arg6 arg7 q

/-- The body up to the last two branches, in terms of the steps. -/
theorem part30_eq : k0_part30 (F := F) i arg2 harg2 arg3 harg3 arg4 harg4 arg5 harg5 arg6 harg6 arg7 harg7 = initProg i arg6 arg7 >>= (fun _ => do
    let q : Vec F S256x128 .f32 ← Prog.lift (.load arg2 (Rect.unit (s := S256x128) ![0, 0] S256x128.size inb_S256x128_S256x128_0_0).toLoadRect (View.loadsAt_vmem h_S256x128))
    let k : Vec F S128x8192 .f32 ← Prog.lift (.load arg3 (Rect.unit (s := S128x8192) ![0, 0] S128x8192.size inb_S128x8192_S128x8192_0_0).toLoadRect (View.loadsAt_vmem h_S128x8192))
    let rv : Vec F S256x128 .f32 ← Prog.lift (.load arg6 (Rect.unit (s := S256x128) ![0, 0] S256x128.size inb_S256x128_S256x128_0_0).toLoadRect (View.loadsAt_vmem h_S256x128))
    let ri : Vec F S256x128 .i32 ← Prog.lift (.load arg7 (Rect.unit (s := S256x128) ![0, 0] S256x128.size inb_S256x128_S256x128_0_0).toLoadRect (View.loadsAt_vmem h_S256x128))
    let _ ← Prog.lift (.load arg6 (Rect.unit (s := S256x128) ![0, 0] S256x128.size inb_S256x128_S256x128_0_0).toLoadRect (View.loadsAt_vmem h_S256x128))
    Prog.lift (.store arg6 (Rect.unit (s := S256x128) ![0, 0] S256x128.size inb_S256x128_S256x128_0_0) (packV fun n => (blockSel i q k rv ri n).val) Finset.univ (View.stores_vmem_bits_univ h_S256x128 rfl) (.inl rfl))
    let _ ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (packI fun n => (blockSel i q k rv ri n).idx ri) Finset.univ (View.stores_vmem_bits_univ h_S256x128 rfl) (.inl rfl))
    pure ⟨BitVec.ofNat 32 (i 1).val, k0_pay39 q, scores q k, baseOf i, rv, ri, k0_pay1047 (F := F), k0_pay1048,
      k0_pay1051 (blockStack i q k).m4 (blockSel i q k rv ri 9).val (blockSel i q k rv ri 10).pc⟩) := by
  rw [k0_part30_eq_skeleton]
  unfold k0_part30_skel
  rw [part3_eq]
  simp only [bind_assoc, pure_bind]
  refine bind_congr fun _ => ?_
  refine bind_congr fun q => bind_congr fun k => ?_
  simp only [part4_at i arg2 harg2 arg3 harg3 arg4 harg4 arg5 harg5 arg6 harg6 arg7 harg7 (scores q k) (baseOf i) lanes, part5_at i arg2 harg2 arg3 harg3 arg4 harg4 arg5 harg5 arg6 harg6 arg7 harg7 (scores q k) (baseOf i) lanes, part6_at i arg2 harg2 arg3 harg3 arg4 harg4 arg5 harg5 arg6 harg6 arg7 harg7 (scores q k) (baseOf i) lanes, part7_at i arg2 harg2 arg3 harg3 arg4 harg4 arg5 harg5 arg6 harg6 arg7 harg7 (scores q k) (baseOf i) lanes, part8_at i arg2 harg2 arg3 harg3 arg4 harg4 arg5 harg5 arg6 harg6 arg7 harg7 (scores q k) (baseOf i) lanes, part9_at i arg2 harg2 arg3 harg3 arg4 harg4 arg5 harg5 arg6 harg6 arg7 harg7 (scores q k) (baseOf i) lanes, part10_at i arg2 harg2 arg3 harg3 arg4 harg4 arg5 harg5 arg6 harg6 arg7 harg7 (scores q k) (baseOf i) lanes, part11_at i arg2 harg2 arg3 harg3 arg4 harg4 arg5 harg5 arg6 harg6 arg7 harg7 (scores q k) (baseOf i) lanes, part12_at i arg2 harg2 arg3 harg3 arg4 harg4 arg5 harg5 arg6 harg6 arg7 harg7 (scores q k) (baseOf i) lanes, part13_at i arg2 harg2 arg3 harg3 arg4 harg4 arg5 harg5 arg6 harg6 arg7 harg7 (scores q k) (baseOf i) lanes, part14_at i arg2 harg2 arg3 harg3 arg4 harg4 arg5 harg5 arg6 harg6 arg7 harg7 (scores q k) (baseOf i) lanes, part15_at i arg2 harg2 arg3 harg3 arg4 harg4 arg5 harg5 arg6 harg6 arg7 harg7 (scores q k) (baseOf i) lanes, part16_at i arg2 harg2 arg3 harg3 arg4 harg4 arg5 harg5 arg6 harg6 arg7 harg7 (scores q k) (baseOf i) lanes, part17_at i arg2 harg2 arg3 harg3 arg4 harg4 arg5 harg5 arg6 harg6 arg7 harg7 (scores q k) (baseOf i) lanes, part18_at i arg2 harg2 arg3 harg3 arg4 harg4 arg5 harg5 arg6 harg6 arg7 harg7 (scores q k) (baseOf i) lanes, part19_at i arg2 harg2 arg3 harg3 arg4 harg4 arg5 harg5 arg6 harg6 arg7 harg7 (scores q k) (baseOf i) lanes, part20_at i arg2 harg2 arg3 harg3 arg4 harg4 arg5 harg5 arg6 harg6 arg7 harg7 (scores q k) (baseOf i) lanes, part21_at i arg2 harg2 arg3 harg3 arg4 harg4 arg5 harg5 arg6 harg6 arg7 harg7 (scores q k) (baseOf i) lanes, part22_at i arg2 harg2 arg3 harg3 arg4 harg4 arg5 harg5 arg6 harg6 arg7 harg7 (scores q k) (baseOf i) lanes, part23_at i arg2 harg2 arg3 harg3 arg4 harg4 arg5 harg5 arg6 harg6 arg7 harg7 (scores q k) (baseOf i) lanes, part24_at i arg2 harg2 arg3 harg3 arg4 harg4 arg5 harg5 arg6 harg6 arg7 harg7 (scores q k) (baseOf i) lanes, insOut, Nat.reduceAdd, pure_bind]
  rw [part25_eq]
  simp only [bind_assoc, pure_bind]
  refine bind_congr fun rv => bind_congr fun ri => ?_
  simp only [part26_eq, part27_eq, part28_eq, part29_eq, pure_bind]
  chain_rfl

/-- The printed program of a grid point is `body`. -/
theorem body_eq : cc0__topk_kernel (F := F) i arg2 harg2 arg3 harg3 arg4 harg4 arg5 harg5 arg6 harg6 arg7 harg7 = body i arg2 arg3 arg4 arg5 arg6 arg7 := by
  rw [cc0__topk_kernel_eq_skeleton]
  unfold cc0__topk_kernel_skel body
  rw [part30_eq]
  simp only [bind_assoc, pure_bind]
  refine bind_congr fun _ => ?_
  refine bind_congr fun q => bind_congr fun k => bind_congr fun rv => bind_congr fun ri => bind_congr fun _ => bind_congr fun _ =>
    bind_congr fun _ => bind_congr fun _ => ?_
  by_cases h : blockOvf i q k rv ri
  · unfold fallProg
    rw [if_pos h]
    refine (if_pos h).trans ?_
    simp only [part1_eq, part2_eq, pure_bind]
    by_cases h3 : k0_cond3 i = 1#1
    · unfold emitProg; simp only [dif_pos h3, if_pos h3]; chain_rfl
    · unfold emitProg; simp only [dif_neg h3, if_neg h3]; chain_rfl
  · unfold fallProg
    rw [if_neg h]
    refine (if_neg h).trans ?_
    by_cases h3 : k0_cond3 i = 1#1
    · unfold emitProg; simp only [dif_pos h3, if_pos h3]; chain_rfl
    · unfold emitProg; simp only [dif_neg h3, if_neg h3]; chain_rfl

end Cert.KernelIdeal.Gen

end
-- ==== Proof.Triple.lean ====
module

public import proofs.«01_k».proof.Proof.Body
public import Idealize.ShloMosaic.Lib.VecWindow
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TopK

variable {F : FTy → Type} [FloatOps F]

local notation "𝕄" => MT nD τ sig Unit (Elt F) ℕ (UR sig nD τ) ℕ

/-- Reading a whole tile returns what it holds. -/
theorem load_tile {e : EltTy} (c : Dev nD) (E : Set ℕ) (a : Memref sig .tc .vmem S256x128 e) (ha : a.IsWhole) (x : Vec F S256x128 e)
    (K : Vec F S256x128 e → sProp 𝕄) :
    iprop(owns (c : Thread nD τ) a fullShare x ∗ (owns (c : Thread nD τ) a fullShare x -∗ K x)) ⊢
      wp frame (wpE (defs₀ (F := F)) Variants.none c none) E
        (Prog.lift (.load a (Rect.unit (s := S256x128) ![0, 0] S256x128.size inb_S256x128_S256x128_0_0).toLoadRect (View.loadsAt_vmem h_S256x128))) K := by
  unfold owns
  iintro ⟨⟨%f0, %hf0, H0⟩, Hk⟩
  obtain rfl := ha.eq_unread hf0
  sl_exec
  sl_step
  have hr : View.readAt (Elt F) a.view (Rect.unit (s := S256x128) ![0, 0] S256x128.size inb_S256x128_S256x128_0_0).toLoadRect (ha.unread x) = x :=
    (View.readAt_full a.view _ _).trans (ha.read_unread x)
  rw [hr]
  iapply Hk
  iexists _; isplitr; · ipureintro; exact ha.read_unread _
  iexact H0

/-- Reading the tile of keys returns what it holds. -/
theorem load_keys (c : Dev nD) (E : Set ℕ) (a : Memref sig .tc .vmem S128x8192 .f32) (ha : a.IsWhole) (x : Vec F S128x8192 .f32)
    (K : Vec F S128x8192 .f32 → sProp 𝕄) :
    iprop(owns (c : Thread nD τ) a fullShare x ∗ (owns (c : Thread nD τ) a fullShare x -∗ K x)) ⊢
      wp frame (wpE (defs₀ (F := F)) Variants.none c none) E
        (Prog.lift (.load a (Rect.unit (s := S128x8192) ![0, 0] S128x8192.size inb_S128x8192_S128x8192_0_0).toLoadRect
          (View.loadsAt_vmem h_S128x8192))) K := by
  unfold owns
  iintro ⟨⟨%f0, %hf0, H0⟩, Hk⟩
  obtain rfl := ha.eq_unread hf0
  sl_exec
  sl_step
  have hr : View.readAt (Elt F) a.view (Rect.unit (s := S128x8192) ![0, 0] S128x8192.size inb_S128x8192_S128x8192_0_0).toLoadRect
      (ha.unread x) = x := (View.readAt_full a.view _ _).trans (ha.read_unread x)
  rw [hr]
  iapply Hk
  iexists _; isplitr; · ipureintro; exact ha.read_unread _
  iexact H0

/-- Writing a whole tile of floats leaves what was written. -/
theorem store_tile (c : Dev nD) (E : Set ℕ) (a : Memref sig .tc .vmem S256x128 .f32) (ha : a.IsWhole) (x y : Vec F S256x128 .f32)
    (K : PUnit → sProp 𝕄) :
    iprop(owns (c : Thread nD τ) a fullShare x ∗ (owns (c : Thread nD τ) a fullShare y -∗ K ⟨⟩)) ⊢
      wp frame (wpE (defs₀ (F := F)) Variants.none c none) E
        (Prog.lift (.store a (Rect.unit (s := S256x128) ![0, 0] S256x128.size inb_S256x128_S256x128_0_0) y Finset.univ
          (View.stores_vmem_bits_univ h_S256x128 rfl) (.inl rfl))) K := by
  unfold owns
  iintro ⟨⟨%f0, %hf0, H0⟩, Hk⟩
  obtain rfl := ha.eq_unread hf0
  sl_exec
  sl_step
  have hr : View.read (Elt F) a.view (a.view.writes (Elt F) (ha.unread x) [⟨(Rect.unit (s := S256x128) ![0, 0] S256x128.size inb_S256x128_S256x128_0_0), y⟩]) = y :=
    (View.readAt_full a.view _ inb_S256x128_S256x128_0_0).symm.trans (funext fun j => View.read_writes_cons_emb a.view _ (Rect.unit (s := S256x128) ![0, 0] S256x128.size inb_S256x128_S256x128_0_0) y [] j)
  iapply Hk
  iexists _; isplitr; · ipureintro; exact hr
  iexact H0

/-- Writing a whole tile of integers leaves what was written. -/
theorem store_tileI (c : Dev nD) (E : Set ℕ) (a : Memref sig .tc .vmem S256x128 .i32) (ha : a.IsWhole) (x y : Vec F S256x128 .i32)
    (K : PUnit → sProp 𝕄) :
    iprop(owns (c : Thread nD τ) a fullShare x ∗ (owns (c : Thread nD τ) a fullShare y -∗ K ⟨⟩)) ⊢
      wp frame (wpE (defs₀ (F := F)) Variants.none c none) E
        (Prog.lift (.store a (Rect.unit (s := S256x128) ![0, 0] S256x128.size inb_S256x128_S256x128_0_0) y Finset.univ
          (View.stores_vmem_bits_univ h_S256x128 rfl) (.inl rfl))) K := by
  unfold owns
  iintro ⟨⟨%f0, %hf0, H0⟩, Hk⟩
  obtain rfl := ha.eq_unread hf0
  sl_exec
  sl_step
  have hr : View.read (Elt F) a.view (a.view.writes (Elt F) (ha.unread x) [⟨(Rect.unit (s := S256x128) ![0, 0] S256x128.size inb_S256x128_S256x128_0_0), y⟩]) = y :=
    (View.readAt_full a.view _ inb_S256x128_S256x128_0_0).symm.trans (funext fun j => View.read_writes_cons_emb a.view _ (Rect.unit (s := S256x128) ![0, 0] S256x128.size inb_S256x128_S256x128_0_0) y [] j)
  iapply Hk
  iexists _; isplitr; · ipureintro; exact hr
  iexact H0

/-- The condition under which the scratch is set. -/
def first (i : grid0.Coords) : Prop := Scalar.cmpi .ne (Scalar.extui (Scalar.cmpi .eq (BitVec.ofNat 32 (i 1).val) 0#32)) 0#32 = 1#1

instance (i : grid0.Coords) : Decidable (first i) := inferInstanceAs (Decidable (_ = _))

/-- The running values a point begins with. -/
def begV (i : grid0.Coords) (x : Vec F S256x128 .f32) : Vec F S256x128 .f32 := if first i then initV else x
/-- The running indices a point begins with. -/
def begI (i : grid0.Coords) (x : Vec F S256x128 .i32) : Vec F S256x128 .i32 := if first i then initI else x

/-- The first branch sets the scratch at a first block and leaves it otherwise. -/
theorem init_sound (c : Dev nD) (E : Set ℕ) (i : grid0.Coords) (arg6 : Memref sig .tc .vmem S256x128 .f32) (harg6 : arg6.IsWhole)
    (arg7 : Memref sig .tc .vmem S256x128 .i32) (harg7 : arg7.IsWhole) (xv : Vec F S256x128 .f32) (xi : Vec F S256x128 .i32)
    (K : PUnit → sProp 𝕄) :
    iprop(owns (c : Thread nD τ) arg6 fullShare xv ∗ owns (c : Thread nD τ) arg7 fullShare xi ∗
        ((owns (c : Thread nD τ) arg6 fullShare (begV i xv) ∗ owns (c : Thread nD τ) arg7 fullShare (begI i xi)) -∗ K ⟨⟩)) ⊢
      wp frame (wpE (defs₀ (F := F)) Variants.none c none) E (initProg i arg6 arg7) K := by
  unfold initProg
  by_cases h : Scalar.cmpi .ne (Scalar.extui (Scalar.cmpi .eq (BitVec.ofNat 32 (i 1).val) 0#32)) 0#32 = 1#1
  · rw [if_pos h, show begV i xv = initV from if_pos h, show begI i xi = initI from if_pos h]
    iintro ⟨H6, H7, Hk⟩
    rw [wp_bind]
    iapply (load_tile c E arg6 harg6 xv _)
    isplitl [H6]; · iexact H6
    iintro H6
    rw [wp_bind]
    iapply (store_tile c E arg6 harg6 xv initV _)
    isplitl [H6]; · iexact H6
    iintro H6
    rw [wp_bind]
    iapply (load_tile c E arg7 harg7 xi _)
    isplitl [H7]; · iexact H7
    iintro H7
    iapply (store_tileI c E arg7 harg7 xi initI _)
    isplitl [H7]; · iexact H7
    iintro H7
    iapply Hk
    isplitl [H6]; · iexact H6
    iexact H7
  · rw [if_neg h, show begV i xv = xv from if_neg h, show begI i xi = xi from if_neg h]
    iintro ⟨H6, H7, Hk⟩
    sl_step
    iapply Hk
    isplitl [H6]; · iexact H6
    iexact H7

/-- The fallback branch, after which the scratch holds the step from before it. -/
theorem fall_sound (c : Dev nD) (E : Set ℕ) (i : grid0.Coords) (arg6 : Memref sig .tc .vmem S256x128 .f32) (harg6 : arg6.IsWhole)
    (arg7 : Memref sig .tc .vmem S256x128 .i32) (harg7 : arg7.IsWhole) (q : Vec F S256x128 .f32) (k : Vec F S128x8192 .f32)
    (rv : Vec F S256x128 .f32) (ri : Vec F S256x128 .i32) (K : PUnit → sProp 𝕄) :
    iprop(owns (c : Thread nD τ) arg6 fullShare (packV fun n => (blockSel i q k rv ri n).val) ∗
        owns (c : Thread nD τ) arg7 fullShare (packI fun n => (blockSel i q k rv ri n).idx ri) ∗
        ((owns (c : Thread nD τ) arg6 fullShare (stepV i q k rv ri) ∗ owns (c : Thread nD τ) arg7 fullShare (stepI i q k rv ri)) -∗ K ⟨⟩)) ⊢
      wp frame (wpE (defs₀ (F := F)) Variants.none c none) E (fallProg i arg6 arg7 q k rv ri) K := by
  unfold fallProg stepV stepI
  by_cases h : blockOvf i q k rv ri
  · simp only [if_pos h]
    iintro ⟨H6, H7, Hk⟩
    rw [wp_bind]
    iapply (load_tile c E arg6 harg6 (packV fun n => (blockSel i q k rv ri n).val) _)
    isplitl [H6]; · iexact H6
    iintro H6
    rw [wp_bind]
    iapply (store_tile c E arg6 harg6 (packV fun n => (blockSel i q k rv ri n).val) (packV' fun n => fullMin (fullAt (fullI ri (baseOf i)) (fullV rv (scores q k)) n)) _)
    isplitl [H6]; · iexact H6
    iintro H6
    rw [wp_bind]
    iapply (load_tile c E arg7 harg7 (packI fun n => (blockSel i q k rv ri n).idx ri) _)
    isplitl [H7]; · iexact H7
    iintro H7
    iapply (store_tileI c E arg7 harg7 (packI fun n => (blockSel i q k rv ri n).idx ri) (packI' fun n => fullIdx (fullI ri (baseOf i)) (fullAt (fullI ri (baseOf i)) (fullV rv (scores q k)) n)) _)
    isplitl [H7]; · iexact H7
    iintro H7
    iapply Hk
    isplitl [H6]; · iexact H6
    iexact H7
  · simp only [if_neg h]
    iintro ⟨H6, H7, Hk⟩
    sl_step
    iapply Hk
    isplitl [H6]; · iexact H6
    iexact H7

/-- The distances a point leaves in the first result's tile. -/
def outV4 (i : grid0.Coords) (q rv old : Vec F S256x128 .f32) : Vec F S256x128 .f32 := if k0_cond3 i = 1#1 then distV q rv else old
/-- The indices a point leaves in the second result's tile. -/
def outI5 (i : grid0.Coords) (ri old : Vec F S256x128 .i32) : Vec F S256x128 .i32 := if k0_cond3 i = 1#1 then ri else old

/-- The last branch writes the results at the last block. -/
theorem emit_sound (c : Dev nD) (E : Set ℕ) (i : grid0.Coords) (arg4 : Memref sig .tc .vmem S256x128 .f32) (harg4 : arg4.IsWhole)
    (arg5 : Memref sig .tc .vmem S256x128 .i32) (harg5 : arg5.IsWhole) (arg6 : Memref sig .tc .vmem S256x128 .f32) (harg6 : arg6.IsWhole)
    (arg7 : Memref sig .tc .vmem S256x128 .i32) (harg7 : arg7.IsWhole) (q : Vec F S256x128 .f32)
    (y4 rv : Vec F S256x128 .f32) (y5 ri : Vec F S256x128 .i32) (K : PUnit → sProp 𝕄) :
    iprop(owns (c : Thread nD τ) arg4 fullShare y4 ∗ owns (c : Thread nD τ) arg5 fullShare y5 ∗
        owns (c : Thread nD τ) arg6 fullShare rv ∗ owns (c : Thread nD τ) arg7 fullShare ri ∗
        ((owns (c : Thread nD τ) arg4 fullShare (outV4 i q rv y4) ∗ owns (c : Thread nD τ) arg5 fullShare (outI5 i ri y5) ∗
          owns (c : Thread nD τ) arg6 fullShare rv ∗ owns (c : Thread nD τ) arg7 fullShare ri) -∗ K ⟨⟩)) ⊢
      wp frame (wpE (defs₀ (F := F)) Variants.none c none) E (emitProg i arg4 arg5 arg6 arg7 q) K := by
  unfold emitProg outV4 outI5
  by_cases h : k0_cond3 i = 1#1
  · simp only [if_pos h]
    iintro ⟨H4, H5, H6, H7, Hk⟩
    rw [wp_bind]
    iapply (load_tile c E arg6 harg6 rv _)
    isplitl [H6]; · iexact H6
    iintro H6
    rw [wp_bind]
    iapply (load_tile c E arg4 harg4 y4 _)
    isplitl [H4]; · iexact H4
    iintro H4
    rw [wp_bind]
    iapply (store_tile c E arg4 harg4 y4 (distV q rv) _)
    isplitl [H4]; · iexact H4
    iintro H4
    rw [wp_bind]
    iapply (load_tile c E arg7 harg7 ri _)
    isplitl [H7]; · iexact H7
    iintro H7
    rw [wp_bind]
    iapply (load_tile c E arg5 harg5 y5 _)
    isplitl [H5]; · iexact H5
    iintro H5
    iapply (store_tileI c E arg5 harg5 y5 ri _)
    isplitl [H5]; · iexact H5
    iintro H5
    iapply Hk
    isplitl [H4]; · iexact H4
    isplitl [H5]; · iexact H5
    isplitl [H6]; · iexact H6
    iexact H7
  · simp only [if_neg h]
    iintro ⟨H4, H5, H6, H7, Hk⟩
    sl_step
    iapply Hk
    isplitl [H4]; · iexact H4
    isplitl [H5]; · iexact H5
    isplitl [H6]; · iexact H6
    iexact H7

/-- What one grid point does to its tiles and to the scratch it carries. -/
theorem body_sound (c : Dev nD) (E : Set ℕ) (i : grid0.Coords) (arg2 : Memref sig .tc .vmem S256x128 .f32) (harg2 : arg2.IsWhole)
    (arg3 : Memref sig .tc .vmem S128x8192 .f32) (harg3 : arg3.IsWhole) (arg4 : Memref sig .tc .vmem S256x128 .f32) (harg4 : arg4.IsWhole)
    (arg5 : Memref sig .tc .vmem S256x128 .i32) (harg5 : arg5.IsWhole) (arg6 : Memref sig .tc .vmem S256x128 .f32) (harg6 : arg6.IsWhole)
    (arg7 : Memref sig .tc .vmem S256x128 .i32) (harg7 : arg7.IsWhole)
    (q : Vec F S256x128 .f32) (k : Vec F S128x8192 .f32) (y4 xv : Vec F S256x128 .f32) (y5 xi : Vec F S256x128 .i32) (K : PUnit → sProp 𝕄) :
    iprop(owns (c : Thread nD τ) arg2 fullShare q ∗ owns (c : Thread nD τ) arg3 fullShare k ∗
        owns (c : Thread nD τ) arg4 fullShare y4 ∗ owns (c : Thread nD τ) arg5 fullShare y5 ∗
        owns (c : Thread nD τ) arg6 fullShare xv ∗ owns (c : Thread nD τ) arg7 fullShare xi ∗
        ((owns (c : Thread nD τ) arg2 fullShare q ∗ owns (c : Thread nD τ) arg3 fullShare k ∗
          owns (c : Thread nD τ) arg4 fullShare (outV4 i q (stepV i q k (begV i xv) (begI i xi)) y4) ∗
          owns (c : Thread nD τ) arg5 fullShare (outI5 i (stepI i q k (begV i xv) (begI i xi)) y5) ∗
          owns (c : Thread nD τ) arg6 fullShare (stepV i q k (begV i xv) (begI i xi)) ∗
          owns (c : Thread nD τ) arg7 fullShare (stepI i q k (begV i xv) (begI i xi))) -∗ K ⟨⟩)) ⊢
      wp frame (wpE (defs₀ (F := F)) Variants.none c none) E
        (cc0__topk_kernel i arg2 harg2 arg3 harg3 arg4 harg4 arg5 harg5 arg6 harg6 arg7 harg7) K := by
  rw [body_eq]
  unfold body
  iintro ⟨H2, H3, H4, H5, H6, H7, Hk⟩
  rw [wp_bind]
  iapply (init_sound c E i arg6 harg6 arg7 harg7 xv xi _)
  isplitl [H6]; · iexact H6
  isplitl [H7]; · iexact H7
  iintro ⟨H6, H7⟩
  generalize begV i xv = rv
  generalize begI i xi = ri
  rw [wp_bind]
  iapply (load_tile c E arg2 harg2 q _)
  isplitl [H2]; · iexact H2
  iintro H2
  rw [wp_bind]
  iapply (load_keys c E arg3 harg3 k _)
  isplitl [H3]; · iexact H3
  iintro H3
  rw [wp_bind]
  iapply (load_tile c E arg6 harg6 rv _)
  isplitl [H6]; · iexact H6
  iintro H6
  rw [wp_bind]
  iapply (load_tile c E arg7 harg7 ri _)
  isplitl [H7]; · iexact H7
  iintro H7
  rw [wp_bind]
  iapply (load_tile c E arg6 harg6 rv _)
  isplitl [H6]; · iexact H6
  iintro H6
  rw [wp_bind]
  iapply (store_tile c E arg6 harg6 rv (packV fun n => (blockSel i q k rv ri n).val) _)
  isplitl [H6]; · iexact H6
  iintro H6
  rw [wp_bind]
  iapply (load_tile c E arg7 harg7 ri _)
  isplitl [H7]; · iexact H7
  iintro H7
  rw [wp_bind]
  iapply (store_tileI c E arg7 harg7 ri (packI fun n => (blockSel i q k rv ri n).idx ri) _)
  isplitl [H7]; · iexact H7
  iintro H7
  rw [wp_bind]
  iapply (fall_sound c E i arg6 harg6 arg7 harg7 q k rv ri _)
  isplitl [H6]; · iexact H6
  isplitl [H7]; · iexact H7
  iintro ⟨H6, H7⟩
  iapply (emit_sound c E i arg4 harg4 arg5 harg5 arg6 harg6 arg7 harg7 q y4 _ y5 _ _)
  isplitl [H4]; · iexact H4
  isplitl [H5]; · iexact H5
  isplitl [H6]; · iexact H6
  isplitl [H7]; · iexact H7
  iintro ⟨H4, H5, H6, H7⟩
  iapply Hk
  isplitl [H2]; · iexact H2
  isplitl [H3]; · iexact H3
  isplitl [H4]; · iexact H4
  isplitl [H5]; · iexact H5
  isplitl [H6]; · iexact H6
  iexact H7

end Cert.KernelIdeal.Gen

end
-- ==== Proof.Run.lean ====
module

public import proofs.«01_k».proof.Proof.Triple
public import Idealize.ShloMosaic.Lib.Claim
public import Idealize.ShloMosaic.Lib.Pipeline.FrameBody
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TopK

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch between the grid points -/

/-- The query tile at a point. -/
abbrev qAt (c : Dev nD) (t : Fin cfg0.N) : Vec F S256x128 .f32 := iblk m c 0 t
/-- The key tile at a point. -/
abbrev kAt (c : Dev nD) (t : Fin cfg0.N) : Vec F S128x8192 .f32 := iblk m c 1 t

/-- The running values and indices before point `n` (before the first: what it sets them to). -/
def scr (c : Dev nD) : ℕ → Vec F S256x128 .f32 × Vec F S256x128 .i32
  | 0 => (initV, initI)
  | n + 1 => if h : n < cfg0.N then
      (stepV (grid0.coords ⟨n, h⟩) (qAt m c ⟨n, h⟩) (kAt m c ⟨n, h⟩) (begV (grid0.coords ⟨n, h⟩) (scr c n).1) (begI (grid0.coords ⟨n, h⟩) (scr c n).2),
       stepI (grid0.coords ⟨n, h⟩) (qAt m c ⟨n, h⟩) (kAt m c ⟨n, h⟩) (begV (grid0.coords ⟨n, h⟩) (scr c n).1) (begI (grid0.coords ⟨n, h⟩) (scr c n).2))
    else scr c n

/-- The scratch after a point is one step from the scratch before it. -/
theorem scr_succ (c : Dev nD) (t : Fin cfg0.N) : scr m c (t.val + 1) =
    (stepV (grid0.coords t) (qAt m c t) (kAt m c t) (begV (grid0.coords t) (scr m c t.val).1) (begI (grid0.coords t) (scr m c t.val).2),
     stepI (grid0.coords t) (qAt m c t) (kAt m c t) (begV (grid0.coords t) (scr m c t.val).1) (begI (grid0.coords t) (scr m c t.val).2)) :=
  dif_pos t.isLt

/-- Point zero is a first block. -/
theorem first_zero (t : Fin cfg0.N) (h : t.val = 0) : first (grid0.coords t) := by
  revert t; decide +kernel

/-- The distances are not touched before the last block, -/
theorem idle2 : ∀ t : Fin cfg0.N, ¬k0_cond3 (grid0.coords t) = 1#1 → cfg0.idle 2 (grid0.coords t) = true := by decide +kernel
/-- nor are the indices; -/
theorem idle3 : ∀ t : Fin cfg0.N, ¬k0_cond3 (grid0.coords t) = 1#1 → cfg0.idle 3 (grid0.coords t) = true := by decide +kernel
/-- the distances are not written back there, -/
theorem noFlush2 : ∀ t : Fin cfg0.N, ¬k0_cond3 (grid0.coords t) = 1#1 → (cfg0.win 2).flush t = false := by decide +kernel
/-- nor are the indices. -/
theorem noFlush3 : ∀ t : Fin cfg0.N, ¬k0_cond3 (grid0.coords t) = 1#1 → (cfg0.win 3).flush t = false := by decide +kernel
/-- The query tile is in use at every point, -/
theorem live0 : ∀ t : Fin cfg0.N, cfg0.idle 0 (grid0.coords t) = false := fun _ => rfl
/-- the key tile too, -/
theorem live1 : ∀ t : Fin cfg0.N, cfg0.idle 1 (grid0.coords t) = false := fun _ => rfl
/-- the distances at the last block, -/
theorem live2 : ∀ t : Fin cfg0.N, k0_cond3 (grid0.coords t) = 1#1 → cfg0.idle 2 (grid0.coords t) = false := by decide +kernel
/-- and the indices there. -/
theorem live3 : ∀ t : Fin cfg0.N, k0_cond3 (grid0.coords t) = 1#1 → cfg0.idle 3 (grid0.coords t) = false := by decide +kernel

/-- The query tile at a point, -/
abbrev tile0 (t : Fin cfg0.N) : Memref sig .tc .vmem S256x128 .f32 := win0_0.stage (cfg0.slots t 0)
/-- the key tile, -/
abbrev tile1 (t : Fin cfg0.N) : Memref sig .tc .vmem S128x8192 .f32 := win0_1.stage (cfg0.slots t 1)
/-- the tile of distances, -/
abbrev tile2 (t : Fin cfg0.N) : Memref sig .tc .vmem S256x128 .f32 := win0_2.stage (cfg0.slots t 2)
/-- and the tile of indices. -/
abbrev tile3 (t : Fin cfg0.N) : Memref sig .tc .vmem S256x128 .i32 := win0_3.stage (cfg0.slots t 3)
/-- The query tile is a whole buffer, -/
abbrev whole0 (t : Fin cfg0.N) : (tile0 t).IsWhole := hstage0_0 ((cfg0.slots t 0).cast nbuf0_0)
/-- so is the key tile, -/
abbrev whole1 (t : Fin cfg0.N) : (tile1 t).IsWhole := hstage0_1 ((cfg0.slots t 1).cast nbuf0_1)
/-- the tile of distances, -/
abbrev whole2 (t : Fin cfg0.N) : (tile2 t).IsWhole := hstage0_2 ((cfg0.slots t 2).cast nbuf0_2)
/-- and the tile of indices. -/
abbrev whole3 (t : Fin cfg0.N) : (tile3 t).IsWhole := hstage0_3 ((cfg0.slots t 3).cast nbuf0_3)
/-- The running values, -/
abbrev scrV : Memref sig .tc .vmem S256x128 .f32 := Memref.whole cc0_scratch0
/-- and the running indices. -/
abbrev scrI : Memref sig .tc .vmem S256x128 .i32 := Memref.whole cc0_scratch1

/-- What the region holds besides the tiles: the two scratch arrays and the generator. -/
theorem rest_eq (c : Dev nD) : (Pipeline.ΦA spec0 c : sProp 𝕄) =
    iprop(iprop((∃ d, owns (c : Thread nD τ) scrV fullShare d) ∗ (∃ d, owns (c : Thread nD τ) scrI fullShare d)) ∗ (∃ r, prngReg c r)) := by
  unfold Pipeline.ΦA; rw [scopedRest0_eq]; simp only [scrV, scrI, owns_whole]; try rfl

/-- What holds between the points: the scratch at `scr`, and before the first point at anything. -/
def inv (c : Dev nD) : (n : ℕ) → n ≤ cfg0.N → sProp 𝕄
  | 0, _ => Pipeline.ΦA spec0 c
  | n + 1, _ => iprop(iprop(owns (c : Thread nD τ) scrV fullShare (scr m c (n + 1)).1 ∗ owns (c : Thread nD τ) scrI fullShare (scr m c (n + 1)).2) ∗
      (∃ r, prngReg c r))

/-- Between points the scratch holds what `scr` says. -/
theorem inv_succ (c : Dev nD) (n : ℕ) (hn : n < cfg0.N) : inv m c (n + 1) hn =
    iprop(iprop(owns (c : Thread nD τ) scrV fullShare (scr m c (n + 1)).1 ∗ owns (c : Thread nD τ) scrI fullShare (scr m c (n + 1)).2) ∗
      (∃ r, prngReg c r)) := rfl

/-- At any point the scratch holds something that the point's beginning turns into what `scr` says. -/
theorem inv_open (c : Dev nD) (t : Fin cfg0.N) : inv m c t.val (Nat.le_of_lt t.isLt) ⊢
    iprop(∃ (xv : Vec F S256x128 .f32) (xi : Vec F S256x128 .i32), ⌜begV (grid0.coords t) xv = begV (grid0.coords t) (scr m c t.val).1 ∧
        begI (grid0.coords t) xi = begI (grid0.coords t) (scr m c t.val).2⌝ ∗
      owns (c : Thread nD τ) scrV fullShare xv ∗ owns (c : Thread nD τ) scrI fullShare xi ∗ (∃ r, prngReg c r)) := by
  obtain ⟨n, hn⟩ := t
  cases n with
  | zero =>
    have hf : first (grid0.coords ⟨0, hn⟩) := first_zero ⟨0, hn⟩ rfl
    show Pipeline.ΦA spec0 c ⊢ _
    rw [rest_eq]
    iintro ⟨⟨⟨%xv, H6⟩, ⟨%xi, H7⟩⟩, Hg⟩
    iexists xv, xi
    isplitr
    · ipureintro
      exact ⟨by unfold begV; rw [if_pos hf, if_pos hf], by unfold begI; rw [if_pos hf, if_pos hf]⟩
    isplitl [H6]; · iexact H6
    isplitl [H7]; · iexact H7
    iexact Hg
  | succ n =>
    show inv m c (n + 1) _ ⊢ _
    rw [inv_succ m c n (Nat.lt_of_succ_lt hn)]
    iintro ⟨⟨H6, H7⟩, Hg⟩
    iexists _, _
    isplitr
    · ipureintro
      exact ⟨rfl, rfl⟩
    isplitl [H6]; · iexact H6
    isplitl [H7]; · iexact H7
    iexact Hg

/-! ## The proof data of the pipeline -/

/-- The arrays as the region finds them; after a point the tiles read at their blocks, the results' tiles at what the scratch gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => distV (qAt m c t) (scr m c (t.val + 1)).1
    | ⟨3, _⟩ => (scr m c (t.val + 1)).2
  Φ t := inv m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by dsimp only [dats]

/-- What holds before a point. -/
theorem inv_castSucc (c : Dev nD) (t : Fin cfg0.N) : (dats m 0 c).Φ t.castSucc = inv m c t.val (Nat.le_of_lt t.isLt) := by
  dsimp only [dats]; exact Pipeline.Dat.Φ_castSucc (inv m c) t

/-- After a point the query tile is as it was, -/
theorem after0 (c : Dev nD) (t : Fin cfg0.N) : (dats m 0 c).after 0 t = iblk m c 0 t := by dsimp only [dats]
/-- so is the key tile, -/
theorem after1 (c : Dev nD) (t : Fin cfg0.N) : (dats m 0 c).after 1 t = iblk m c 1 t := by dsimp only [dats]
/-- the distances are those of the running values, -/
theorem after2 (c : Dev nD) (t : Fin cfg0.N) : (dats m 0 c).after 2 t = distV (qAt m c t) (scr m c (t.val + 1)).1 := by dsimp only [dats]
/-- and the indices the running indices. -/
theorem after3 (c : Dev nD) (t : Fin cfg0.N) : (dats m 0 c).after 3 t = (scr m c (t.val + 1)).2 := by dsimp only [dats]

/-- Before a point the query tile holds its block -/
theorem before0 (c : Dev nD) (t : Fin cfg0.N) (d) : (dats m 0 c).before 0 t d = iblk m c 0 t :=
  before0_0_of m (dats m 0 c) (A_eq m c 0) (after0 m c) t d
/-- and the key tile its block. -/
theorem before1 (c : Dev nD) (t : Fin cfg0.N) (d) : (dats m 0 c).before 1 t d = iblk m c 1 t :=
  before0_1_of m (dats m 0 c) (A_eq m c 1) (after1 m c) t d

/-- What a point is called with, -/
def bodyPre (c : Dev nD) (t : Fin cfg0.N) : sProp 𝕄 :=
  iprop((dats m 0 c).Φ t.castSucc ∗ (dats m 0 c).owesAt () t.castSucc
    ∗ (∃ d, owns (c : Thread nD τ) (tile0 t) fullShare ((dats m 0 c).before 0 t d))
    ∗ (∃ d, owns (c : Thread nD τ) (tile1 t) fullShare ((dats m 0 c).before 1 t d))
    ∗ (∃ d, owns (c : Thread nD τ) (tile2 t) fullShare ((dats m 0 c).before 2 t d))
    ∗ (∃ d, owns (c : Thread nD τ) (tile3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- Every point does what the proof data say. -/
theorem point_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = inv m c (t.val + 1) t.isLt from rfl, inv_succ, inv_castSucc]
  rw [show (dats m 0 c).leavesExact 0 t = owns (c : Thread nD τ) (tile0 t) fullShare ((dats m 0 c).after 0 t) from by
    unfold Dat.leavesExact; rw [live0 t], after0]
  rw [show (dats m 0 c).leavesExact 1 t = owns (c : Thread nD τ) (tile1 t) fullShare ((dats m 0 c).after 1 t) from by
    unfold Dat.leavesExact; rw [live1 t], after1]
  have hs := scr_succ m c t
  by_cases h : k0_cond3 (grid0.coords t) = 1#1
  · rw [show (dats m 0 c).leavesExact 2 t = owns (c : Thread nD τ) (tile2 t) fullShare ((dats m 0 c).after 2 t) from by
      unfold Dat.leavesExact; rw [live2 t h], after2]
    rw [show (dats m 0 c).leavesExact 3 t = owns (c : Thread nD τ) (tile3 t) fullShare ((dats m 0 c).after 3 t) from by
      unfold Dat.leavesExact; rw [live3 t h], after3]
    iintro ⟨Hi, Ho, ⟨%d0, H0⟩, ⟨%d1, H1⟩, ⟨%d2, H2⟩, ⟨%d3, H3⟩⟩
    ihave Hi := inv_open m c t $$ Hi
    icases Hi with ⟨%xv, %xi, %hx, H6, H7, Hg⟩
    iapply (body_sound c Set.univ (grid0.coords t) (tile0 t) (whole0 t) (tile1 t) (whole1 t) (tile2 t) (whole2 t) (tile3 t) (whole3 t)
      scrV (Memref.isWhole_whole _) scrI (Memref.isWhole_whole _) (qAt m c t) (kAt m c t) _ xv _ xi _)
    isplitl [H0]; · iexact H0
    isplitl [H1]; · iexact H1
    isplitl [H2]; · iexact H2
    isplitl [H3]; · iexact H3
    isplitl [H6]; · iexact H6
    isplitl [H7]; · iexact H7
    rw [hx.1, hx.2, show outV4 (F := F) (grid0.coords t) = fun q rv _ => distV q rv from by funext q rv o; exact if_pos h,
      show outI5 (F := F) (grid0.coords t) = fun ri _ => ri from by funext ri o; exact if_pos h, hs]
    iintro ⟨H0, H1, H2, H3, H6, H7⟩
    isplitl [H6 H7 Hg]
    · isplitl [H6 H7]
      · isplitl [H6]; · iexact H6
        iexact H7
      iexact Hg
    isplitl [Ho]; · iexact Ho
    isplitl [H0]; · iexact H0
    isplitl [H1]; · iexact H1
    isplitl [H2]; · iexact H2
    iexact H3
  · rw [Dat.leavesExact_idle (dats m 0 c) 2 t (idle2 t h) (noFlush2 t h)]
    rw [Dat.leavesExact_idle (dats m 0 c) 3 t (idle3 t h) (noFlush3 t h)]
    iintro ⟨Hi, Ho, ⟨%d0, H0⟩, ⟨%d1, H1⟩, ⟨%d2, H2⟩, ⟨%d3, H3⟩⟩
    ihave Hi := inv_open m c t $$ Hi
    icases Hi with ⟨%xv, %xi, %hx, H6, H7, Hg⟩
    iapply (body_sound c Set.univ (grid0.coords t) (tile0 t) (whole0 t) (tile1 t) (whole1 t) (tile2 t) (whole2 t) (tile3 t) (whole3 t)
      scrV (Memref.isWhole_whole _) scrI (Memref.isWhole_whole _) (qAt m c t) (kAt m c t) _ xv _ xi _)
    isplitl [H0]; · iexact H0
    isplitl [H1]; · iexact H1
    isplitl [H2]; · iexact H2
    isplitl [H3]; · iexact H3
    isplitl [H6]; · iexact H6
    isplitl [H7]; · iexact H7
    rw [hx.1, hx.2, show outV4 (F := F) (grid0.coords t) = fun _ _ o => o from by funext q rv o; exact if_neg h,
      show outI5 (F := F) (grid0.coords t) = fun _ o => o from by funext ri o; exact if_neg h, hs]
    iintro ⟨H0, H1, H2, H3, H6, H7⟩
    isplitl [H6 H7 Hg]
    · isplitl [H6 H7]
      · isplitl [H6]; · iexact H6
        iexact H7
      iexact Hg
    isplitl [Ho]; · iexact Ho
    isplitl [H0]; · iexact H0
    isplitl [H1]; · iexact H1
    isplitl [H2]; · iexists _; iexact H2
    iexists _; iexact H3

/-- The body called at a point. -/
theorem defs₀_row (t : Fin cfg0.N) : defs₀ (F := F) .tc cfg0.body (cfg0.bodyArgs t (cfg0.slots t)) = bodyAt0 t := by
  unfold defs₀; rw [Defs.onTc_tc]

/-- Every point meets its obligation. -/
theorem body_obligation (c : Dev nD) : BodyObligation (dats (F := F) m 0 c) (defs₀ (F := F)) Variants.none () Set.univ := fun t => by
  rw [bigSep_W0, bigSep_W0, defs₀_row]
  exact triple_restated (point_sound m c t) rfl .rfl fun _ => .rfl

/-- What the region holds begins the invariant. -/
theorem hin (c : Dev nD) : Pipeline.ΦA spec0 c ⊢ (dats m 0 c).Φ 0 := Idealize.SL.BI.Entails.refl _

/-- The invariant after the last point gives back what the region holds. -/
theorem hout (c : Dev nD) : (dats m 0 c).Φ (Fin.last cfg0.N) ⊢ Pipeline.ΦA spec0 c := by
  rw [show (dats m 0 c).Φ (Fin.last cfg0.N) = inv m c (51 + 1) (Nat.lt_of_lt_of_eq (by decide : 51 < 52) N_0.symm) from by
    dsimp only [dats]; congr 1, inv_succ, rest_eq]
  iintro ⟨⟨H6, H7⟩, Hg⟩
  isplitl [H6 H7]
  · isplitl [H6]
    · iexists _; iexact H6
    iexists _; iexact H7
  iexact Hg

set_option backward.isDefEq.respectTransparency.types false in
set_option maxHeartbeats 800000 in
/-- Every run ends with the pipeline's arrays as the proof data say and all counters zero. -/
theorem run_main : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged and every counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Gen

end
-- ==== Proof.Frames.lean ====
module

public import proofs.«01_k».proof.Proof.Run
public import proofs.«01_k».proof.Proof.Bits.Run
public import proofs.«01_k».proof.Proof.Gen.ReferenceIdeal.Run
public import proofs.«01_k».proof.Defs
public import Idealize.ShloMosaic.Lib.Quiescent

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_bounded.Facts := ⟨by decide, by decide⟩

/-- Every run of the kernel at the machine's floats ends, with unchanged arguments and all counters zero. -/
theorem frame_kernel : Cert.quiescent_Kernel := fun m ρ _ => Cert.Kernel.Gen.frame_main m ρ

/-- The same of the kernel over the extended reals, -/
theorem frame_ideal : Cert.quiescent_KernelIdeal := fun m ρ _ => Cert.KernelIdeal.Gen.frame_main m ρ

/-- and of the reference over the extended reals. -/
theorem frame_reference : Cert.quiescent_ReferenceIdeal := fun m ρ _ =>
  (θ_run _ _ _).mono (fun r h => ⟨fun c => ⟨(h c).2.2.1, (h c).2.2.2⟩, sem_eq_zero_of_no_sems (by decide) r.2⟩)
    (Cert.ReferenceIdeal.Value.run m ρ)

/-- The kernel's frame under the precondition, -/
theorem frame_ideal_bounded : Cert.quiescent_KernelIdeal_pre_bounded := fun m ρ _ => frame_ideal m ρ trivial

/-- and the reference's. -/
theorem frame_reference_bounded : Cert.quiescent_ReferenceIdeal_pre_bounded := fun m ρ _ => frame_reference m ρ trivial

end Cert.Proof

end
-- ==== Proof.Top.lean ====
module

public import Idealize.ShloMosaic.PureOps.Ideal
public import Idealize.ShloMosaic.Lib.SortFacts

@[expose] public section

namespace Cert.Top

/-! ## The `n` least values of a family, in order -/

/-- `v` are the `n` least values of `s` over the indices in `U`, in order, and `i` are indices at which they stand. -/
structure Least {ι : Type} (n : ℕ) (s : ι → EReal) (U : ι → Prop) (v : Fin n → EReal) (i : Fin n → ι) : Prop where
  mem : ∀ j, U (i j)
  val : ∀ j, v j = s (i j)
  mono : ∀ j k, j ≤ k → v j ≤ v k
  inj : Function.Injective i
  rest : ∀ x, U x → (∃ j, i j = x) ∨ ∀ j, v j ≤ s x

variable {ι κ : Type} {n : ℕ} {s : ι → EReal} {U : ι → Prop} {v w : Fin n → EReal} {i k : Fin n → ι}

/-- The `j`-th least value of one choice is at most that of another: otherwise the other's first `j + 1` indices were all among the first `j` of the one. -/
theorem Least.le (h : Least n s U v i) (h' : Least n s U w k) (j : Fin n) : v j ≤ w j := by
  by_contra hlt
  rw [not_le] at hlt
  have key : ∀ a : Fin (j.val + 1), ∃ b : Fin j.val, i ⟨b.val, b.isLt.trans j.isLt⟩ = k ⟨a.val, lt_of_lt_of_le a.isLt j.isLt⟩ := by
    intro a
    have ha : w ⟨a.val, lt_of_lt_of_le a.isLt j.isLt⟩ < v j :=
      lt_of_le_of_lt (h'.mono _ j (Fin.le_def.mpr (Nat.lt_succ_iff.mp a.isLt))) hlt
    rcases h.rest _ (h'.mem ⟨a.val, lt_of_lt_of_le a.isLt j.isLt⟩) with ⟨b, hb⟩ | hb
    · have hbv : v b < v j := by rw [h.val b, hb, ← h'.val]; exact ha
      have hbj : b.val < j.val := by
        by_contra hge
        exact absurd (h.mono j b (Fin.le_def.mpr (not_lt.mp hge))) (not_le.mpr hbv)
      exact ⟨⟨b.val, hbj⟩, hb⟩
    · exact absurd (hb j) (not_le.mpr (by rw [← h'.val]; exact ha))
  choose f hf using key
  have hinj : Function.Injective f := fun a b hab => by
    have := (hf a).symm.trans ((congrArg (fun b : Fin j.val => i ⟨b.val, b.isLt.trans j.isLt⟩) hab).trans (hf b))
    have := h'.inj this
    exact Fin.ext (by simpa using this)
  have := Fintype.card_le_of_injective f hinj
  simp at this

/-- The least values are determined. -/
theorem Least.val_unique (h : Least n s U v i) (h' : Least n s U w k) : v = w :=
  funext fun j => le_antisymm (h.le h' j) (h'.le h j)

/-- The first `n` of the `n + 1` least are the `n` least. -/
theorem Least.init {v : Fin (n + 1) → EReal} {i : Fin (n + 1) → ι} (h : Least (n + 1) s U v i) :
    Least n s U (fun j => v j.castSucc) (fun j => i j.castSucc) where
  mem j := h.mem _
  val j := h.val _
  mono a b hab := h.mono _ _ (Fin.castSucc_le_castSucc_iff.mpr hab)
  inj a b hab := Fin.castSucc_injective _ (h.inj hab)
  rest x hx := by
    rcases h.rest x hx with ⟨j, hj⟩ | hj
    · by_cases hl : j = Fin.last n
      · right
        intro a
        rw [← hj, ← h.val]
        exact h.mono _ _ (hl ▸ Fin.le_last _)
      · left
        exact ⟨j.castPred hl, by simpa using hj⟩
    · exact .inr fun a => hj _

/-- Where a value among the `n + 1` least differs from its neighbours, every choice of the `n` least has the same index there. -/
theorem Least.idx_unique {v : Fin (n + 1) → EReal} {i : Fin (n + 1) → ι} (h : Least (n + 1) s U v i) (h' : Least n s U w k)
    (j : Fin n) (hlo : ∀ a : Fin (n + 1), a.val + 1 = j.val → v a < v j.castSucc) (hhi : v j.castSucc < v j.succ) :
    k j = i j.castSucc := by
  have hv : w j = v j.castSucc := congrFun (h'.val_unique h.init) j
  rcases h.rest _ (h'.mem j) with ⟨a, ha⟩ | ha
  · have hva : v a = v j.castSucc := by rw [h.val a, ha, ← h'.val, hv]
    rcases lt_trichotomy a.val j.val with hlt | heq | hgt
    · exfalso
      obtain ⟨b, hb⟩ : ∃ b : Fin (n + 1), b.val + 1 = j.val := ⟨⟨j.val - 1, by omega⟩, by simp; omega⟩
      have h1 := h.mono a b (Fin.le_def.mpr (by omega))
      exact absurd (lt_of_le_of_lt h1 (hlo b hb)) (by rw [hva]; exact lt_irrefl _)
    · rw [← ha]; congr 1; exact Fin.ext heq
    · exfalso
      have h1 := h.mono j.succ a (Fin.le_def.mpr (by simp; omega))
      exact absurd (lt_of_lt_of_le hhi h1) (by rw [hva]; exact lt_irrefl _)
  · exfalso
    have := ha j.succ
    rw [← h'.val, hv] at this
    exact absurd hhi (not_lt.mpr this)

/-- The least values under an order-preserving change of the values stand at the same indices. -/
theorem Least.comp {t : ι → EReal} (h : Least n s U v i) (ht : ∀ x y, U x → U y → s x ≤ s y → t x ≤ t y) :
    Least n t U (fun j => t (i j)) i where
  mem := h.mem
  val _ := rfl
  mono a b hab := ht _ _ (h.mem a) (h.mem b) (by rw [← h.val, ← h.val]; exact h.mono a b hab)
  inj := h.inj
  rest x hx := (h.rest x hx).imp_right fun hj a => ht _ _ (h.mem a) hx (by rw [← h.val]; exact hj a)

/-- The least values of a family carried to other indices. -/
theorem Least.map {t : κ → EReal} {W : κ → Prop} (h : Least n s U v i) (f : ι → κ) (hf : Function.Injective f)
    (hs : ∀ x, t (f x) = s x) (hU : ∀ x, U x → W (f x)) (hW : ∀ y, W y → ∃ x, U x ∧ f x = y) :
    Least n t W v (fun j => f (i j)) where
  mem j := hU _ (h.mem j)
  val j := by rw [hs, h.val]
  mono := h.mono
  inj := hf.comp h.inj
  rest y hy := by
    obtain ⟨x, hx, rfl⟩ := hW y hy
    rcases h.rest x hx with ⟨j, hj⟩ | hj
    · exact .inl ⟨j, by rw [hj]⟩
    · exact .inr fun j => by rw [hs]; exact hj j

/-- The least values over `U` are those over a part `W` that has more than `n` members, all of smaller value than every other member. -/
theorem Least.restrict {W : ι → Prop} (h : Least n s U v i) (hWU : ∀ x, W x → U x)
    (hbig : ∃ f : Fin (n + 1) → ι, Function.Injective f ∧ ∀ a, W (f a)) (hlt : ∀ x y, W x → U y → ¬W y → s x < s y) : Least n s W v i where
  mem j := by
    by_contra hj
    obtain ⟨f, hf, hfW⟩ := hbig
    have : ∃ a, ∀ b, i b ≠ f a := by
      by_contra hall
      push Not at hall
      choose g hg using hall
      have hgi : Function.Injective g := fun a b hab => hf (by rw [← hg a, ← hg b, hab])
      have := Fintype.card_le_of_injective g hgi
      simp at this
    obtain ⟨a, ha⟩ := this
    rcases h.rest _ (hWU _ (hfW a)) with ⟨b, hb⟩ | hb
    · exact ha b hb
    · have h1 := hb j
      rw [h.val j] at h1
      exact absurd (hlt _ _ (hfW a) (h.mem j) hj) (not_lt.mpr h1)
  val := h.val
  mono := h.mono
  inj := h.inj
  rest x hx := h.rest x (hWU x hx)

/-- The least values over `U` are those over a larger `W` whose further members lie above them. -/
theorem Least.extend {W : ι → Prop} (h : Least n s U v i) (hUW : ∀ x, U x → W x)
    (hge : ∀ x, W x → ¬U x → ∀ j, v j ≤ s x) : Least n s W v i where
  mem j := hUW _ (h.mem j)
  val := h.val
  mono := h.mono
  inj := h.inj
  rest x hx := by
    by_cases hu : U x
    · exact h.rest x hu
    · exact .inr (hge x hx hu)

/-- Over a larger set the least values are not larger. -/
theorem Least.le_of_sub {W : ι → Prop} (h : Least n s U v i) (h' : Least n s W w k) (hUW : ∀ x, U x → W x) (j : Fin n) : w j ≤ v j := by
  by_contra hlt
  rw [not_le] at hlt
  have key : ∀ a : Fin (j.val + 1), ∃ b : Fin j.val, k ⟨b.val, b.isLt.trans j.isLt⟩ = i ⟨a.val, lt_of_lt_of_le a.isLt j.isLt⟩ := by
    intro a
    have ha : v ⟨a.val, lt_of_lt_of_le a.isLt j.isLt⟩ < w j :=
      lt_of_le_of_lt (h.mono _ j (Fin.le_def.mpr (Nat.lt_succ_iff.mp a.isLt))) hlt
    rcases h'.rest _ (hUW _ (h.mem ⟨a.val, lt_of_lt_of_le a.isLt j.isLt⟩)) with ⟨b, hb⟩ | hb
    · have hbv : w b < w j := by rw [h'.val b, hb, ← h.val]; exact ha
      have hbj : b.val < j.val := by
        by_contra hge
        exact absurd (h'.mono j b (Fin.le_def.mpr (not_lt.mp hge))) (not_le.mpr hbv)
      exact ⟨⟨b.val, hbj⟩, hb⟩
    · exact absurd (hb j) (not_le.mpr (by rw [← h.val]; exact ha))
  choose f hf using key
  have hinj : Function.Injective f := fun a b hab => by
    have := (hf a).symm.trans ((congrArg (fun b : Fin j.val => k ⟨b.val, b.isLt.trans j.isLt⟩) hab).trans (hf b))
    have := h.inj this
    exact Fin.ext (by simpa using this)
  have := Fintype.card_le_of_injective f hinj
  simp at this

end Cert.Top
-- ==== Proof.Lane.lean ====
module

public import proofs.«01_k».proof.Proof.Top

@[expose] public section

namespace Cert.Top

/-! ## One lane: the three least values with their indices, and the least value dropped -/

/-- One lane of the scan: the least value dropped, and three values with their indices. -/
structure Lane where
  m4 : EReal
  v0 : EReal
  i0 : BitVec 32
  v1 : EReal
  i1 : BitVec 32
  v2 : EReal
  i2 : BitVec 32

/-- The index that stands for nothing. -/
abbrev noIdx : BitVec 32 := 4294967295#32

/-- Nothing scanned. -/
noncomputable def Lane.empty : Lane := ⟨⊤, ⊤, noIdx, ⊤, noIdx, ⊤, noIdx⟩

open Classical in
/-- The larger of a value and a stored one. -/
noncomputable def big (v s : EReal) : EReal := if v < s then s else v
open Classical in
/-- The smaller of a value and a stored one. -/
noncomputable def small (v s : EReal) : EReal := if v < s then v else s
open Classical in
/-- The index of the larger. -/
noncomputable def bigI (v s : EReal) (vi si : BitVec 32) : BitVec 32 := if v < s then si else vi
open Classical in
/-- The index of the smaller. -/
noncomputable def smallI (v s : EReal) (vi si : BitVec 32) : BitVec 32 := if v < s then vi else si

/-- One value inserted. -/
noncomputable def Lane.push (s : Lane) (v : EReal) (vi : BitVec 32) : Lane where
  m4 := min s.m4 (big (big (big v s.v0) s.v1) s.v2)
  v0 := small v s.v0
  i0 := smallI v s.v0 vi s.i0
  v1 := small (big v s.v0) s.v1
  i1 := smallI (big v s.v0) s.v1 (bigI v s.v0 vi s.i0) s.i1
  v2 := small (big (big v s.v0) s.v1) s.v2
  i2 := smallI (big (big v s.v0) s.v1) s.v2 (bigI (big v s.v0) s.v1 (bigI v s.v0 vi s.i0) s.i1) s.i2

/-- A stored pair: nothing, or an index of `P` with its value. -/
def Entry (s : BitVec 32 → EReal) (P : BitVec 32 → Prop) (v : EReal) (i : BitVec 32) : Prop :=
  (v = ⊤ ∧ i = noIdx) ∨ (P i ∧ v = s i)

/-- What a lane holds after scanning the indices `P`: entries of `P` in order, at different indices, and every index of `P`
    is an entry or has a value not below the least dropped one. -/
structure LaneOk (s : BitVec 32 → EReal) (P : BitVec 32 → Prop) (a : Lane) : Prop where
  e0 : Entry s P a.v0 a.i0
  e1 : Entry s P a.v1 a.i1
  e2 : Entry s P a.v2 a.i2
  le1 : a.v0 ≤ a.v1
  le2 : a.v1 ≤ a.v2
  le4 : a.v2 ≤ a.m4
  cover : ∀ x, P x → a.i0 = x ∨ a.i1 = x ∨ a.i2 = x ∨ a.m4 ≤ s x
  ne1 : a.i1 = noIdx ∨ a.i1 ≠ a.i0
  ne2 : a.i2 = noIdx ∨ (a.i2 ≠ a.i0 ∧ a.i2 ≠ a.i1)

/-- The empty stack is right for no values. -/
theorem LaneOk.empty (s : BitVec 32 → EReal) : LaneOk s (fun _ => False) Lane.empty where
  e0 := .inl ⟨rfl, rfl⟩
  e1 := .inl ⟨rfl, rfl⟩
  e2 := .inl ⟨rfl, rfl⟩
  le1 := le_refl _
  le2 := le_refl _
  le4 := le_refl _
  cover _ h := h.elim
  ne1 := .inl rfl
  ne2 := .inl rfl

/-- An entry taken from a set is one from any larger set. -/
theorem Entry.mono {s : BitVec 32 → EReal} {P Q : BitVec 32 → Prop} {v : EReal} {i : BitVec 32} (h : Entry s P v i) (hPQ : ∀ x, P x → Q x) :
    Entry s Q v i := h.imp_right fun h => ⟨hPQ _ h.1, h.2⟩

/-- Inserting a new index keeps what a lane holds. -/
theorem LaneOk.push {s : BitVec 32 → EReal} {P : BitVec 32 → Prop} {a : Lane} (h : LaneOk s P a) (x : BitVec 32) (hx : ¬P x) (hn : x ≠ noIdx)
    (hP : ¬P noIdx) : LaneOk s (fun y => P y ∨ y = x) (a.push (s x) x) := by
  obtain ⟨e0, e1, e2, le1, le2, le4, cover, ne1, ne2⟩ := h
  have i0 : a.i0 ≠ x := by rcases e0 with ⟨-, h⟩ | ⟨h, -⟩ <;> rintro rfl <;> [exact hn h; exact hx h]
  have i1 : a.i1 ≠ x := by rcases e1 with ⟨-, h⟩ | ⟨h, -⟩ <;> rintro rfl <;> [exact hn h; exact hx h]
  have i2 : a.i2 ≠ x := by rcases e2 with ⟨-, h⟩ | ⟨h, -⟩ <;> rintro rfl <;> [exact hn h; exact hx h]
  have E0 := e0.mono (Q := fun y => P y ∨ y = x) fun _ => .inl
  have E1 := e1.mono (Q := fun y => P y ∨ y = x) fun _ => .inl
  have E2 := e2.mono (Q := fun y => P y ∨ y = x) fun _ => .inl
  have Ex : Entry s (fun y => P y ∨ y = x) (s x) x := .inr ⟨.inr rfl, rfl⟩
  unfold Lane.push big small bigI smallI
  by_cases c0 : s x < a.v0
  · simp only [if_pos c0]
    by_cases c1 : a.v0 < a.v1
    · simp only [if_pos c1]
      by_cases c2 : a.v1 < a.v2
      · simp only [if_pos c2]
        refine ⟨Ex, E0, E1, c0.le, le1, le_min (le2.trans le4) le2, ?_, ?_, ?_⟩
        · grind [Entry, min_le_left, min_le_right]
        · grind [Entry]
        · grind [Entry]
      · simp only [if_neg c2]
        refine ⟨Ex, E0, E2, c0.le, le1.trans le2, le_min le4 (not_lt.mp c2), ?_, ?_, ?_⟩
        · grind [Entry, min_le_left, min_le_right]
        · grind [Entry]
        · grind [Entry]
    · simp only [if_neg c1]
      by_cases c2 : a.v0 < a.v2
      · simp only [if_pos c2]
        refine ⟨Ex, E1, E0, c0.le.trans le1, not_lt.mp c1, le_min (c2.le.trans le4) c2.le, ?_, ?_, ?_⟩
        · grind [Entry, min_le_left, min_le_right]
        · grind [Entry]
        · grind [Entry]
      · simp only [if_neg c2]
        refine ⟨Ex, E1, E2, c0.le.trans le1, le2, le_min le4 (not_lt.mp c2), ?_, ?_, ?_⟩
        · grind [Entry, min_le_left, min_le_right]
        · grind [Entry]
        · grind [Entry]
  · simp only [if_neg c0]
    by_cases c1 : s x < a.v1
    · simp only [if_pos c1]
      by_cases c2 : a.v1 < a.v2
      · simp only [if_pos c2]
        refine ⟨E0, Ex, E1, not_lt.mp c0, c1.le, le_min (le2.trans le4) le2, ?_, ?_, ?_⟩
        · grind [Entry, min_le_left, min_le_right]
        · grind [Entry]
        · grind [Entry]
      · simp only [if_neg c2]
        refine ⟨E0, Ex, E2, not_lt.mp c0, c1.le.trans le2, le_min le4 (not_lt.mp c2), ?_, ?_, ?_⟩
        · grind [Entry, min_le_left, min_le_right]
        · grind [Entry]
        · grind [Entry]
    · simp only [if_neg c1]
      by_cases c2 : s x < a.v2
      · simp only [if_pos c2]
        refine ⟨E0, E1, Ex, le1, not_lt.mp c1, le_min (c2.le.trans le4) c2.le, ?_, ?_, ?_⟩
        · grind [Entry, min_le_left, min_le_right]
        · grind [Entry]
        · grind [Entry]
      · simp only [if_neg c2]
        refine ⟨E0, E1, E2, le1, le2, le_min le4 (not_lt.mp c2), ?_, ?_, ?_⟩
        · grind [Entry, min_le_left, min_le_right]
        · grind [Entry]
        · grind [Entry]

/-- The lane after inserting the indices `f 0, …, f (n - 1)`. -/
noncomputable def laneAt (s : BitVec 32 → EReal) (f : ℕ → BitVec 32) : ℕ → Lane
  | 0 => Lane.empty
  | n + 1 => (laneAt s f n).push (s (f n)) (f n)

/-- What a lane holds after scanning different indices. -/
theorem laneAt_ok (s : BitVec 32 → EReal) (f : ℕ → BitVec 32) (n : ℕ) (hf : ∀ a b, a < n → b < n → f a = f b → a = b)
    (hn : ∀ a, a < n → f a ≠ noIdx) : LaneOk s (fun x => ∃ a, a < n ∧ f a = x) (laneAt s f n) := by
  induction n with
  | zero =>
    have := LaneOk.empty s
    rw [show (fun x => ∃ a, a < 0 ∧ f a = x) = fun _ => False from by funext x; simp]
    exact this
  | succ n ih =>
    have h := ih (fun a b ha hb => hf a b (by omega) (by omega)) (fun a ha => hn a (by omega))
    have := h.push (f n) (by rintro ⟨a, ha, e⟩; have := hf a n (by omega) (by omega) e; omega) (hn n (by omega))
      (by rintro ⟨a, ha, e⟩; exact hn a (by omega) e)
    rw [show (fun x => ∃ a, a < n + 1 ∧ f a = x) = fun y => (∃ a, a < n ∧ f a = y) ∨ y = f n from by
      funext x; apply propext; constructor
      · rintro ⟨a, ha, e⟩
        by_cases h : a = n
        · exact .inr (by rw [← e, h])
        · exact .inl ⟨a, by omega, e⟩
      · rintro (⟨a, ha, e⟩ | e)
        · exact ⟨a, by omega, e⟩
        · exact ⟨n, by omega, e.symm⟩]
    exact this

end Cert.Top
-- ==== Proof.Rounds.lean ====
module

public import proofs.«01_k».proof.Proof.Lane

@[expose] public section

namespace Cert.Top

/-! ## Rounds that take the least candidate -/

/-- `m` is the least of the candidates, given in two families of values with indices, and `sel` an index at which it stands. -/
structure Pick {α β : Type} (w : α → EReal) (i : α → BitVec 32) (w' : β → EReal) (i' : β → BitVec 32) (m : EReal) (sel : BitVec 32) : Prop where
  le : ∀ c, m ≤ w c
  le' : ∀ c, m ≤ w' c
  at_ : (∃ c, w c = m ∧ i c = sel) ∨ ∃ c, w' c = m ∧ i' c = sel

/-- There are finitely many words. -/
noncomputable local instance : Fintype (BitVec 32) :=
  Fintype.ofInjective (fun x : BitVec 32 => x.toFin) fun _ _ h => BitVec.toFin_inj.mp h

variable {s : BitVec 32 → EReal}

/-- The values taken, one in each round, the least of what remains, are the least values in order. -/
theorem collect (n : ℕ) (V : ℕ → Finset (BitVec 32)) (m : ℕ → EReal) (sel : ℕ → BitVec 32)
    (h : ∀ r, r < n → sel r ∈ V r ∧ m r = s (sel r) ∧ (∀ x, x ∈ V r → m r ≤ s x) ∧ V (r + 1) = (V r).erase (sel r)) :
    Least n s (fun x => x ∈ V 0) (fun j => m j.val) (fun j => sel j.val) ∧ ∀ x, x ∈ V n → ∀ j, j < n → m j ≤ s x := by
  have sub : ∀ d a, a + d ≤ n → ∀ x, x ∈ V (a + d) → x ∈ V a := by
    intro d
    induction d with
    | zero => intro a _ x hx; exact hx
    | succ d ih =>
      intro a ha x hx
      refine ih a (by omega) x ?_
      have := (h (a + d) (by omega)).2.2.2
      rw [show a + (d + 1) = a + d + 1 from rfl, this] at hx
      exact Finset.mem_of_mem_erase hx
  have sub' : ∀ a b, a ≤ b → b ≤ n → ∀ x, x ∈ V b → x ∈ V a := fun a b hab hb x hx => by
    obtain ⟨d, rfl⟩ := Nat.exists_eq_add_of_le hab
    exact sub d a hb x hx
  have ne : ∀ a b, a < b → b < n → sel a ≠ sel b := fun a b hab hb e => by
    have h1 := sub' (a + 1) b hab hb.le _ (h b hb).1
    rw [(h a (hab.trans hb)).2.2.2, ← e] at h1
    exact Finset.notMem_erase _ _ h1
  have all : ∀ k, k ≤ n → ∀ x, x ∈ V 0 → (∃ j, j < k ∧ sel j = x) ∨ x ∈ V k := by
    intro k
    induction k with
    | zero => intro _ x hx; exact .inr hx
    | succ k ih =>
      intro hk x hx
      rcases ih (by omega) x hx with ⟨j, hj, e⟩ | hx
      · exact .inl ⟨j, by omega, e⟩
      · by_cases e : sel k = x
        · exact .inl ⟨k, by omega, e⟩
        · right
          rw [(h k (by omega)).2.2.2]
          exact Finset.mem_erase.mpr ⟨fun h => e h.symm, hx⟩
  have last : ∀ x, x ∈ V n → ∀ j, j < n → m j ≤ s x := fun x hx j hj => (h j hj).2.2.1 x (sub' j n hj.le le_rfl x hx)
  refine ⟨⟨fun j => sub' 0 j.val (Nat.zero_le _) j.isLt.le _ (h j.val j.isLt).1, fun j => (h j.val j.isLt).2.1, fun a b hab => ?_, fun a b hab => ?_,
    fun x hx => ?_⟩, last⟩
  · rw [(h b.val b.isLt).2.1]
    exact (h a.val a.isLt).2.2.1 _ (sub' a.val b.val hab b.isLt.le _ (h b.val b.isLt).1)
  · rcases lt_trichotomy a.val b.val with hl | he | hl
    · exact absurd hab (ne a.val b.val hl b.isLt)
    · exact Fin.ext he
    · exact absurd hab.symm (ne b.val a.val hl a.isLt)
  · rcases all n le_rfl x hx with ⟨j, hj, e⟩ | hx
    · exact .inl ⟨⟨j, hj⟩, e⟩
    · exact .inr fun j => last x hx j.val j.isLt

/-! ## The running list -/

/-- The running list of a query after the indices `U`: the ten least values with indices, then plus infinities; before the first index only those. -/
structure RunOk (s : BitVec 32 → EReal) (U : BitVec 32 → Prop) (rv : Fin 128 → EReal) (ri : Fin 128 → BitVec 32) : Prop where
  tail : ∀ c : Fin 128, 10 ≤ c.val → rv c = ⊤
  head : ((∀ c, rv c = ⊤) ∧ ∀ x, ¬U x) ∨
    Least 10 s U (fun j => rv (j.castLE (by decide))) (fun j => ri (j.castLE (by decide)))

variable {U B : BitVec 32 → Prop} {rv : Fin 128 → EReal} {ri : Fin 128 → BitVec 32}

/-- Every entry of the running list is plus infinity or an index of `U` with its value. -/
theorem RunOk.entry (h : RunOk s U rv ri) (c : Fin 128) : rv c = ⊤ ∨ (U (ri c) ∧ rv c = s (ri c)) := by
  rcases h.head with ⟨h, -⟩ | hl
  · exact .inl (h c)
  · by_cases hc : 10 ≤ c.val
    · exact .inl (h.tail c hc)
    · exact .inr ⟨hl.mem ⟨c.val, not_le.mp hc⟩, hl.val ⟨c.val, not_le.mp hc⟩⟩

/-- If the ten least values are taken from a set that has the running list in it, a value of `U` outside it is not below them. -/
theorem RunOk.hidden {W : BitVec 32 → Prop} {m : Fin 10 → EReal} {sel : Fin 10 → BitVec 32} (h : RunOk s U rv ri)
    (hl : Least 10 s W m sel) (hW : ∀ c, U (ri c) → rv c = s (ri c) → W (ri c)) (x : BitVec 32) (hx : U x) (hxW : ¬W x) (j : Fin 10) : m j ≤ s x := by
  rcases h.head with ⟨-, h⟩ | hr
  · exact absurd hx (h x)
  · rcases hr.rest x hx with ⟨b, hb⟩ | hb
    · exact absurd (hb ▸ hW _ (hr.mem b) (hr.val b)) hxW
    · have hR : Least 10 s (fun y => ∃ b : Fin 10, ri (b.castLE (by decide)) = y) (fun j => rv (j.castLE (by decide))) (fun j => ri (j.castLE (by decide))) :=
        ⟨fun j => ⟨j, rfl⟩, hr.val, hr.mono, hr.inj, fun x hx => .inl hx⟩
      exact (hR.le_of_sub hl (fun y ⟨b, hb⟩ => hb ▸ hW _ (hr.mem b) (hr.val b)) j).trans (hb j)

/-! ## The selection over the running list and the lanes' heads -/

/-- The state of the selection for one query. -/
structure SelRow where
  rv : Fin 128 → EReal
  v0 : Fin 128 → EReal
  i0 : Fin 128 → BitVec 32
  v1 : Fin 128 → EReal
  i1 : Fin 128 → BitVec 32
  v2 : Fin 128 → EReal
  i2 : Fin 128 → BitVec 32
  pc : Fin 128 → BitVec 32

/-- One round with the index `sel` taken. -/
noncomputable def SelRow.next (ri : Fin 128 → BitVec 32) (sel : BitVec 32) (a : SelRow) : SelRow where
  rv c := if ri c = sel then ⊤ else a.rv c
  v0 l := if a.i0 l = sel then a.v1 l else a.v0 l
  i0 l := if a.i0 l = sel then a.i1 l else a.i0 l
  v1 l := if a.i0 l = sel then a.v2 l else a.v1 l
  i1 l := if a.i0 l = sel then a.i2 l else a.i1 l
  v2 l := if a.i0 l = sel then ⊤ else a.v2 l
  i2 l := if a.i0 l = sel then noIdx else a.i2 l
  pc l := a.pc l + if a.i0 l = sel then 1#32 else 0#32

/-- What the selection's state is after `r` rounds, when the indices `V` are left: `U` are the running list's indices, the others are in the lane `home` tells. -/
structure SelOk (s : BitVec 32 → EReal) (U : BitVec 32 → Prop) (home : BitVec 32 → Fin 128) (m4 : Fin 128 → EReal) (ri : Fin 128 → BitVec 32)
    (V : Finset (BitVec 32)) (r : ℕ) (a : SelRow) : Prop where
  fin : ∀ x, x ∈ V → s x < ⊤ ∧ x ≠ noIdx
  run : ∀ c, a.rv c = ⊤ ∨ ((ri c ∈ V ∧ U (ri c)) ∧ a.rv c = s (ri c))
  e0 : ∀ l, Entry s (fun x => x ∈ V ∧ home x = l ∧ ¬U x) (a.v0 l) (a.i0 l)
  e1 : ∀ l, Entry s (fun x => x ∈ V ∧ home x = l ∧ ¬U x) (a.v1 l) (a.i1 l)
  e2 : ∀ l, Entry s (fun x => x ∈ V ∧ home x = l ∧ ¬U x) (a.v2 l) (a.i2 l)
  le1 : ∀ l, a.v0 l ≤ a.v1 l
  le2 : ∀ l, a.v1 l ≤ a.v2 l
  cover : ∀ x, x ∈ V → (∃ c, ri c = x ∧ a.rv c = s x) ∨ ∃ l, a.i0 l = x ∨ a.i1 l = x ∨ a.i2 l = x
  ne1 : ∀ l, a.i1 l = noIdx ∨ a.i1 l ≠ a.i0 l
  ne2 : ∀ l, a.i2 l = noIdx ∨ (a.i2 l ≠ a.i0 l ∧ a.i2 l ≠ a.i1 l)
  pops : ∀ l, ∃ n, n ≤ r ∧ a.pc l = BitVec.ofNat 32 n ∧ (n = 0 → a.v2 l ≤ m4 l) ∧ (n = 1 → a.v1 l ≤ m4 l) ∧ (n = 2 → a.v0 l ≤ m4 l)

variable {home : BitVec 32 → Fin 128} {m4 : Fin 128 → EReal} {V : Finset (BitVec 32)} {r : ℕ} {a : SelRow} {m : EReal} {sel : BitVec 32}

/-- An entry with the value of a member is not empty. -/
theorem Entry.of_ne {P : BitVec 32 → Prop} {v : EReal} {i x : BitVec 32} (h : Entry s P v i) (hi : i = x) (hx : x ≠ noIdx) : P x ∧ v = s x := by
  subst hi
  rcases h with ⟨-, h⟩ | h
  · exact absurd h hx
  · exact h

/-- The least candidate is the least of what is left. -/
theorem SelOk.pick (h : SelOk s U home m4 ri V r a) (hp : Pick a.rv ri a.v0 a.i0 m sel) (hV : V.Nonempty) :
    sel ∈ V ∧ m = s sel ∧ ∀ x, x ∈ V → m ≤ s x := by
  have hle : ∀ x, x ∈ V → m ≤ s x := fun x hx => by
    rcases h.cover x hx with ⟨c, -, hc⟩ | ⟨l, hl⟩
    · rw [← hc]; exact hp.le c
    · have h0 := hp.le' l
      have h1 := h.le1 l
      have h2 := h.le2 l
      have hn := (h.fin x hx).2
      rcases hl with hl | hl | hl
      · rw [← ((h.e0 l).of_ne hl hn).2]; exact h0
      · rw [← ((h.e1 l).of_ne hl hn).2]; exact h0.trans h1
      · rw [← ((h.e2 l).of_ne hl hn).2]; exact h0.trans (h1.trans h2)
  obtain ⟨x, hx⟩ := hV
  have hm : m < ⊤ := lt_of_le_of_lt (hle x hx) (h.fin x hx).1
  rcases hp.at_ with ⟨c, hc, rfl⟩ | ⟨l, hl, rfl⟩
  · rcases h.run c with ht | ⟨⟨h1, -⟩, h2⟩
    · exact absurd (hc.symm.trans ht) hm.ne
    · exact ⟨h1, hc.symm.trans h2, hle⟩
  · rcases h.e0 l with ⟨ht, -⟩ | ⟨⟨h1, -⟩, h2⟩
    · exact absurd (hl.symm.trans ht) hm.ne
    · exact ⟨h1, hl.symm.trans h2, hle⟩

/-- An entry whose index is not the one removed remains one. -/
theorem Entry.erase {v : EReal} {i : BitVec 32} {Q : BitVec 32 → Prop} (h : Entry s (fun x => x ∈ V ∧ Q x) v i) (hi : i ≠ sel) :
    Entry s (fun x => x ∈ V.erase sel ∧ Q x) v i :=
  h.imp_right fun h => ⟨⟨Finset.mem_erase.mpr ⟨hi, h.1.1⟩, h.1.2⟩, h.2⟩

/-- One round keeps what the selection's state is. -/
theorem SelOk.next (h : SelOk s U home m4 ri V r a) (hp : Pick a.rv ri a.v0 a.i0 m sel) (hV : V.Nonempty) :
    SelOk s U home m4 ri (V.erase sel) (r + 1) (a.next ri sel) := by
  obtain ⟨hs, hm, hle⟩ := h.pick hp hV
  have hn := (h.fin sel hs).2
  have hfin := (h.fin sel hs).1
  -- an entry below the head is not the one taken, unless the head is
  have hhome : ∀ l, home sel = l → ¬U sel → a.i0 l = sel := by
    intro l h1 h2
    rcases hp.at_ with ⟨c, hc, e⟩ | ⟨l', hl, e⟩
    · rcases h.run c with ht | ⟨⟨-, h3⟩, -⟩
      · exact absurd (ht.symm.trans (hc.trans hm)) hfin.ne'
      · exact absurd (e ▸ h3) h2
    · have := ((h.e0 l').of_ne e hn).1.2.1
      rw [← h1, this]; exact e
  have n1 : ∀ l, a.i0 l ≠ sel → a.i1 l ≠ sel := fun l h0 h1 =>
    let e := ((h.e1 l).of_ne h1 hn).1
    h0 (hhome l e.2.1 e.2.2)
  have n2 : ∀ l, a.i0 l ≠ sel → a.i2 l ≠ sel := fun l h0 h1 =>
    let e := ((h.e2 l).of_ne h1 hn).1
    h0 (hhome l e.2.1 e.2.2)
  have k1 : ∀ l, a.i0 l = sel → a.i1 l ≠ sel := fun l h0 => by
    rcases h.ne1 l with e | e
    · rw [e]; exact hn.symm
    · rw [← h0]; exact e
  have k2 : ∀ l, a.i0 l = sel → a.i2 l ≠ sel := fun l h0 => by
    rcases h.ne2 l with e | ⟨e, -⟩
    · rw [e]; exact hn.symm
    · rw [← h0]; exact e
  refine ⟨fun x hx => h.fin x (Finset.mem_of_mem_erase hx), fun c => ?_, fun l => ?_, fun l => ?_, fun l => ?_, fun l => ?_, fun l => ?_,
    fun x hx => ?_, fun l => ?_, fun l => ?_, fun l => ?_⟩
  · unfold SelRow.next
    by_cases hc : ri c = sel
    · exact .inl (if_pos hc)
    · simp only [if_neg hc]
      exact (h.run c).imp_right fun e => ⟨⟨Finset.mem_erase.mpr ⟨hc, e.1.1⟩, e.1.2⟩, e.2⟩
  · unfold SelRow.next
    by_cases hl : a.i0 l = sel
    · simp only [if_pos hl]; exact (h.e1 l).erase (k1 l hl)
    · simp only [if_neg hl]; exact (h.e0 l).erase hl
  · unfold SelRow.next
    by_cases hl : a.i0 l = sel
    · simp only [if_pos hl]; exact (h.e2 l).erase (k2 l hl)
    · simp only [if_neg hl]; exact (h.e1 l).erase (n1 l hl)
  · unfold SelRow.next
    by_cases hl : a.i0 l = sel
    · simp only [if_pos hl]; exact .inl ⟨rfl, rfl⟩
    · simp only [if_neg hl]; exact (h.e2 l).erase (n2 l hl)
  · unfold SelRow.next
    by_cases hl : a.i0 l = sel
    · simp only [if_pos hl]; exact h.le2 l
    · simp only [if_neg hl]; exact h.le1 l
  · unfold SelRow.next
    by_cases hl : a.i0 l = sel
    · simp only [if_pos hl]; exact le_top
    · simp only [if_neg hl]; exact h.le2 l
  · have hxs := Finset.ne_of_mem_erase hx
    rcases h.cover x (Finset.mem_of_mem_erase hx) with ⟨c, hc, e⟩ | ⟨l, hl⟩
    · exact .inl ⟨c, hc, by unfold SelRow.next; simp only [if_neg (show ri c ≠ sel from hc ▸ hxs)]; exact e⟩
    · right
      refine ⟨l, ?_⟩
      unfold SelRow.next
      by_cases hi : a.i0 l = sel
      · simp only [if_pos hi]
        rcases hl with hl | hl | hl
        · exact absurd (hl.symm.trans hi) hxs
        · exact .inl hl
        · exact .inr (.inl hl)
      · simp only [if_neg hi]; exact hl
  · unfold SelRow.next
    by_cases hl : a.i0 l = sel
    · simp only [if_pos hl]; exact (h.ne2 l).imp_right fun e => e.2
    · simp only [if_neg hl]; exact h.ne1 l
  · unfold SelRow.next
    by_cases hl : a.i0 l = sel
    · simp only [if_pos hl]; exact .inl trivial
    · simp only [if_neg hl]; exact h.ne2 l
  · obtain ⟨n, hr, hpc, h0, h1, h2⟩ := h.pops l
    unfold SelRow.next
    by_cases hl : a.i0 l = sel
    · simp only [if_pos hl]
      refine ⟨n + 1, by omega, ?_, by omega, fun hn => h0 (by omega), fun hn => h1 (by omega)⟩
      rw [hpc, BitVec.ofNat_add]
    · simp only [if_neg hl]
      exact ⟨n, by omega, by rw [hpc, BitVec.add_zero], h0, h1, h2⟩

/-- The state after `n` rounds, when round `k` takes the index `sel k`. -/
noncomputable def selRowAt (ri : Fin 128 → BitVec 32) (sel : ℕ → BitVec 32) (a : SelRow) : ℕ → SelRow
  | 0 => a
  | n + 1 => (selRowAt ri sel a n).next ri (sel n)

/-- The indices left after `n` rounds. -/
def leftAt (sel : ℕ → BitVec 32) (V : Finset (BitVec 32)) : ℕ → Finset (BitVec 32)
  | 0 => V
  | n + 1 => (leftAt sel V n).erase (sel n)

/-- With at least `n` indices to take, `n` rounds take the `n` least, and what is left is not below them. -/
theorem SelOk.rounds {ms : ℕ → EReal} {sels : ℕ → BitVec 32} (n : ℕ) (h : SelOk s U home m4 ri V 0 a) (hV : n ≤ V.card)
    (hp : ∀ k, k < n → Pick (selRowAt ri sels a k).rv ri (selRowAt ri sels a k).v0 (selRowAt ri sels a k).i0 (ms k) (sels k)) :
    SelOk s U home m4 ri (leftAt sels V n) n (selRowAt ri sels a n) ∧ Least n s (fun x => x ∈ V) (fun j => ms j.val) (fun j => sels j.val) ∧
      ∀ x, x ∈ leftAt sels V n → ∀ j, j < n → ms j ≤ s x := by
  have key : ∀ k, k ≤ n → SelOk s U home m4 ri (leftAt sels V k) k (selRowAt ri sels a k) ∧ n ≤ (leftAt sels V k).card + k := by
    intro k
    induction k with
    | zero => intro _; exact ⟨h, hV⟩
    | succ k ih =>
      intro hk
      obtain ⟨h1, h2⟩ := ih (by omega)
      have hne : (leftAt sels V k).Nonempty := Finset.card_pos.mp (by omega)
      refine ⟨h1.next (hp k (by omega)) hne, ?_⟩
      have h3 := Finset.card_erase_of_mem (h1.pick (hp k (by omega)) hne).1
      show n ≤ ((leftAt sels V k).erase (sels k)).card + (k + 1)
      omega
  refine ⟨(key n le_rfl).1, collect n (leftAt sels V) ms sels fun k hk => ?_⟩
  obtain ⟨h1, h2⟩ := key k hk.le
  obtain ⟨e1, e2, e3⟩ := h1.pick (hp k hk) (Finset.card_pos.mp (by omega))
  exact ⟨e1, e2, e3, rfl⟩

/-- The beginning of the selection from scanned lanes. -/
def SelRow.start (rv : Fin 128 → EReal) (L : Fin 128 → Lane) : SelRow where
  rv := rv
  v0 l := (L l).v0
  i0 l := (L l).i0
  v1 l := (L l).v1
  i1 l := (L l).i1
  v2 l := (L l).v2
  i2 l := (L l).i2
  pc _ := 0#32

open Classical in
/-- The selection takes the ten least of the running list's indices and the block's, unless a lane popped three times hides a value not above the tenth. -/
theorem sel_least {L : Fin 128 → Lane} {ms : ℕ → EReal} {sels : ℕ → BitVec 32} (hr : RunOk s U rv ri)
    (hL : ∀ l, LaneOk s (fun x => B x ∧ home x = l) (L l)) (hne : ∀ l, ∃ x, B x ∧ home x = l) (hUB : ∀ x, B x → ¬U x)
    (hU : ∀ x, U x → s x < ⊤ ∧ x ≠ noIdx) (hB : ∀ x, B x → s x < ⊤ ∧ x ≠ noIdx)
    (hp : ∀ k, k < 10 → Pick (selRowAt ri sels (SelRow.start rv L) k).rv ri (selRowAt ri sels (SelRow.start rv L) k).v0
      (selRowAt ri sels (SelRow.start rv L) k).i0 (ms k) (sels k))
    (hno : ∀ l, ¬((3#32).sle ((selRowAt ri sels (SelRow.start rv L) 10).pc l) = true ∧ (L l).m4 ≤ ms 9)) :
    Least 10 s (fun x => U x ∨ B x) (fun j => ms j.val) (fun j => sels j.val) := by
  let V : Finset (BitVec 32) := Finset.univ.filter fun x => (U x ∧ ∃ c, ri c = x ∧ rv c = s x) ∨
    (B x ∧ ∃ l, (L l).i0 = x ∨ (L l).i1 = x ∨ (L l).i2 = x)
  have hVm : ∀ x, x ∈ V ↔ (U x ∧ ∃ c, ri c = x ∧ rv c = s x) ∨ (B x ∧ ∃ l, (L l).i0 = x ∨ (L l).i1 = x ∨ (L l).i2 = x) :=
    fun x => by simp [V]
  have hfin : ∀ x, x ∈ V → s x < ⊤ ∧ x ≠ noIdx := fun x hx => by
    rcases (hVm x).mp hx with ⟨h, -⟩ | ⟨h, -⟩
    · exact hU x h
    · exact hB x h
  have ent : ∀ l v i, Entry s (fun x => B x ∧ home x = l) v i → ((L l).i0 = i ∨ (L l).i1 = i ∨ (L l).i2 = i) →
      Entry s (fun x => x ∈ V ∧ home x = l ∧ ¬U x) v i := fun l v i he hi =>
    he.imp_right fun e => ⟨⟨(hVm i).mpr (.inr ⟨e.1.1, l, hi⟩), e.1.2, hUB i e.1.1⟩, e.2⟩
  have h0 : SelOk s U home (fun l => (L l).m4) ri V 0 (SelRow.start rv L) :=
    { fin := hfin
      run := fun c => (hr.entry c).imp_right fun e => ⟨⟨(hVm _).mpr (.inl ⟨e.1, c, rfl, e.2⟩), e.1⟩, e.2⟩
      e0 := fun l => ent l _ _ (hL l).e0 (.inl rfl)
      e1 := fun l => ent l _ _ (hL l).e1 (.inr (.inl rfl))
      e2 := fun l => ent l _ _ (hL l).e2 (.inr (.inr rfl))
      le1 := fun l => (hL l).le1
      le2 := fun l => (hL l).le2
      cover := fun x hx => ((hVm x).mp hx).imp (fun e => e.2) fun e => e.2
      ne1 := fun l => (hL l).ne1
      ne2 := fun l => (hL l).ne2
      pops := fun l => ⟨0, le_rfl, rfl, fun _ => (hL l).le4, by omega, by omega⟩ }
  -- every lane has a head
  have hhead : ∀ l, B (L l).i0 ∧ home (L l).i0 = l := fun l => by
    rcases (hL l).e0 with ⟨ht, -⟩ | ⟨h, -⟩
    · exfalso
      obtain ⟨x, hx⟩ := hne l
      have hs := hB x hx.1
      have t1 : (L l).v1 = ⊤ := top_le_iff.mp (ht ▸ (hL l).le1)
      have t2 : (L l).v2 = ⊤ := top_le_iff.mp (t1 ▸ (hL l).le2)
      have t4 : (L l).m4 = ⊤ := top_le_iff.mp (t2 ▸ (hL l).le4)
      rcases (hL l).cover x hx with e | e | e | e
      · exact hs.1.ne (((hL l).e0.of_ne e hs.2).2 ▸ ht)
      · exact hs.1.ne (((hL l).e1.of_ne e hs.2).2 ▸ t1)
      · exact hs.1.ne (((hL l).e2.of_ne e hs.2).2 ▸ t2)
      · exact hs.1.ne (top_le_iff.mp (t4 ▸ e))
    · exact h
  have hcard : 10 ≤ V.card := by
    have h1 : (Finset.univ.image fun l : Fin 128 => (L l).i0).card = 128 := by
      rw [Finset.card_image_of_injective]
      · simp
      · intro l l' e
        have := congrArg home e
        simp only [(hhead l).2, (hhead l').2] at this
        exact this
    have h2 : (Finset.univ.image fun l : Fin 128 => (L l).i0) ⊆ V := fun x hx => by
      obtain ⟨l, -, rfl⟩ := Finset.mem_image.mp hx
      exact (hVm _).mpr (.inr ⟨(hhead l).1, l, .inl rfl⟩)
    have := Finset.card_le_card h2
    omega
  obtain ⟨hend, hleast, hleft⟩ := h0.rounds 10 hcard hp
  -- what a lane dropped is not below the tenth
  have hm4 : ∀ l, ms 9 ≤ (L l).m4 := fun l => by
    obtain ⟨n, hn, hpc, p0, p1, p2⟩ := hend.pops l
    have low : ∀ v i, Entry s (fun x => x ∈ leftAt sels V 10 ∧ home x = l ∧ ¬U x) v i → v ≤ (L l).m4 → ms 9 ≤ (L l).m4 := by
      intro v i he hv
      rcases he with ⟨ht, -⟩ | ⟨h1, h2⟩
      · exact le_top.trans (ht.symm.le.trans hv)
      · exact (hleft i h1.1 9 (by decide)).trans (h2 ▸ hv)
    by_cases h3 : 3 ≤ n
    · have hs : (3#32).sle ((selRowAt ri sels (SelRow.start rv L) 10).pc l) = true := by
        rw [hpc]; interval_cases n <;> rfl
      exact (not_le.mp fun h => hno l ⟨hs, h⟩).le
    · have hn3 : n = 0 ∨ n = 1 ∨ n = 2 := by omega
      rcases hn3 with e | e | e
      · exact low _ _ (hend.e2 l) (p0 e)
      · exact low _ _ (hend.e1 l) (p1 e)
      · exact low _ _ (hend.e0 l) (p2 e)
  have h9 : ∀ j : Fin 10, ms j.val ≤ ms 9 := fun j => hleast.mono j 9 (Fin.le_def.mpr (by have := j.isLt; show j.val ≤ 9; omega))
  refine hleast.extend (fun x hx => ((hVm x).mp hx).imp (fun e => e.1) fun e => e.1) fun x hx hxV j => ?_
  rcases hx with hx | hx
  · exact hr.hidden hleast (fun c h1 h2 => (hVm _).mpr (.inl ⟨h1, c, rfl, h2⟩)) x hx hxV j
  · rcases (hL (home x)).cover x ⟨hx, rfl⟩ with e | e | e | e
    · exact absurd ((hVm x).mpr (.inr ⟨hx, home x, .inl e⟩)) hxV
    · exact absurd ((hVm x).mpr (.inr ⟨hx, home x, .inr (.inl e)⟩)) hxV
    · exact absurd ((hVm x).mpr (.inr ⟨hx, home x, .inr (.inr e)⟩)) hxV
    · exact (h9 j).trans ((hm4 (home x)).trans e)

/-! ## The fallback over the running list and the whole block -/

/-- What the fallback's values are when the indices `V` are left. -/
structure FullOk {α β : Type} (s : BitVec 32 → EReal) (i : α → BitVec 32) (i' : β → BitVec 32) (V : Finset (BitVec 32)) (w : α → EReal) (w' : β → EReal) : Prop where
  fin : ∀ x, x ∈ V → s x < ⊤
  run : ∀ c, w c = ⊤ ∨ (i c ∈ V ∧ w c = s (i c))
  run' : ∀ c, w' c = ⊤ ∨ (i' c ∈ V ∧ w' c = s (i' c))
  cover : ∀ x, x ∈ V → (∃ c, i c = x ∧ w c = s x) ∨ ∃ c, i' c = x ∧ w' c = s x

section full
variable {α β : Type} {i : α → BitVec 32} {i' : β → BitVec 32} {w : α → EReal} {w' : β → EReal}

/-- A round of the fallback takes a member of the set, of least value. -/
theorem FullOk.pick (h : FullOk s i i' V w w') (hp : Pick w i w' i' m sel) (hV : V.Nonempty) :
    sel ∈ V ∧ m = s sel ∧ ∀ x, x ∈ V → m ≤ s x := by
  have hle : ∀ x, x ∈ V → m ≤ s x := fun x hx => by
    rcases h.cover x hx with ⟨c, -, hc⟩ | ⟨c, -, hc⟩
    · rw [← hc]; exact hp.le c
    · rw [← hc]; exact hp.le' c
  obtain ⟨x, hx⟩ := hV
  have hm : m < ⊤ := lt_of_le_of_lt (hle x hx) (h.fin x hx)
  rcases hp.at_ with ⟨c, hc, rfl⟩ | ⟨c, hc, rfl⟩
  · rcases h.run c with ht | ⟨h1, h2⟩
    · exact absurd (hc.symm.trans ht) hm.ne
    · exact ⟨h1, hc.symm.trans h2, hle⟩
  · rcases h.run' c with ht | ⟨h1, h2⟩
    · exact absurd (hc.symm.trans ht) hm.ne
    · exact ⟨h1, hc.symm.trans h2, hle⟩

/-- After a round the lists show the set without the member taken. -/
theorem FullOk.next (h : FullOk s i i' V w w') (sel : BitVec 32) :
    FullOk s i i' (V.erase sel) (fun c => if i c = sel then ⊤ else w c) (fun c => if i' c = sel then ⊤ else w' c) where
  fin x hx := h.fin x (Finset.mem_of_mem_erase hx)
  run c := by
    by_cases hc : i c = sel
    · exact .inl (if_pos hc)
    · rw [if_neg hc]; exact (h.run c).imp_right fun e => ⟨Finset.mem_erase.mpr ⟨hc, e.1⟩, e.2⟩
  run' c := by
    by_cases hc : i' c = sel
    · exact .inl (if_pos hc)
    · rw [if_neg hc]; exact (h.run' c).imp_right fun e => ⟨Finset.mem_erase.mpr ⟨hc, e.1⟩, e.2⟩
  cover x hx := by
    have hxs := Finset.ne_of_mem_erase hx
    rcases h.cover x (Finset.mem_of_mem_erase hx) with ⟨c, hc, e⟩ | ⟨c, hc, e⟩
    · exact .inl ⟨c, hc, by rw [if_neg (hc ▸ hxs)]; exact e⟩
    · exact .inr ⟨c, hc, by rw [if_neg (hc ▸ hxs)]; exact e⟩

/-- One family of the fallback's values after `n` rounds. -/
noncomputable def killAt (i : α → BitVec 32) (sel : ℕ → BitVec 32) (w : α → EReal) : ℕ → α → EReal
  | 0 => w
  | n + 1 => fun c => if i c = sel n then ⊤ else killAt i sel w n c

/-- The fallback's rounds take the least values. -/
theorem FullOk.rounds {ms : ℕ → EReal} {sels : ℕ → BitVec 32} (n : ℕ) (h : FullOk s i i' V w w') (hV : n ≤ V.card)
    (hp : ∀ k, k < n → Pick (killAt i sels w k) i (killAt i' sels w' k) i' (ms k) (sels k)) :
    Least n s (fun x => x ∈ V) (fun j => ms j.val) (fun j => sels j.val) := by
  have key : ∀ k, k ≤ n → FullOk s i i' (leftAt sels V k) (killAt i sels w k) (killAt i' sels w' k) ∧ n ≤ (leftAt sels V k).card + k := by
    intro k
    induction k with
    | zero => intro _; exact ⟨h, hV⟩
    | succ k ih =>
      intro hk
      obtain ⟨h1, h2⟩ := ih (by omega)
      have hne : (leftAt sels V k).Nonempty := Finset.card_pos.mp (by omega)
      refine ⟨h1.next (sels k), ?_⟩
      have h3 := Finset.card_erase_of_mem (h1.pick (hp k (by omega)) hne).1
      show n ≤ ((leftAt sels V k).erase (sels k)).card + (k + 1)
      omega
  refine (collect n (leftAt sels V) ms sels fun k hk => ?_).1
  obtain ⟨h1, h2⟩ := key k hk.le
  obtain ⟨e1, e2, e3⟩ := h1.pick (hp k hk) (Finset.card_pos.mp (by omega))
  exact ⟨e1, e2, e3, rfl⟩

end full

open Classical in
/-- The fallback takes the ten least of the running list's indices and the block's. -/
theorem full_least {N : ℕ} (hN : 10 ≤ N) {i' : Fin N → BitVec 32} {w' : Fin N → EReal} {ms : ℕ → EReal} {sels : ℕ → BitVec 32} (hr : RunOk s U rv ri)
    (hi : Function.Injective i') (hiB : ∀ c, B (i' c)) (hBi : ∀ x, B x → ∃ c, i' c = x) (hw : ∀ c, w' c = s (i' c))
    (hU : ∀ x, U x → s x < ⊤) (hB : ∀ x, B x → s x < ⊤)
    (hp : ∀ k, k < 10 → Pick (killAt ri sels rv k) ri (killAt i' sels w' k) i' (ms k) (sels k)) :
    Least 10 s (fun x => U x ∨ B x) (fun j => ms j.val) (fun j => sels j.val) := by
  let V : Finset (BitVec 32) := Finset.univ.filter fun x => (U x ∧ ∃ c, ri c = x ∧ rv c = s x) ∨ B x
  have hVm : ∀ x, x ∈ V ↔ (U x ∧ ∃ c, ri c = x ∧ rv c = s x) ∨ B x := fun x => by simp [V]
  have h0 : FullOk s ri i' V rv w' :=
    { fin := fun x hx => by
        rcases (hVm x).mp hx with ⟨h, -⟩ | h
        · exact hU x h
        · exact hB x h
      run := fun c => (hr.entry c).imp_right fun e => ⟨(hVm _).mpr (.inl ⟨e.1, c, rfl, e.2⟩), e.2⟩
      run' := fun c => .inr ⟨(hVm _).mpr (.inr (hiB c)), hw c⟩
      cover := fun x hx => ((hVm x).mp hx).imp (fun e => e.2) fun e => by
        obtain ⟨c, rfl⟩ := hBi x e
        exact ⟨c, rfl, hw c⟩ }
  have hcard : 10 ≤ V.card := by
    have h1 : (Finset.univ.image i').card = N := by rw [Finset.card_image_of_injective _ hi]; simp
    have h2 : Finset.univ.image i' ⊆ V := fun x hx => by
      obtain ⟨c, -, rfl⟩ := Finset.mem_image.mp hx
      exact (hVm _).mpr (.inr (hiB c))
    have := Finset.card_le_card h2
    omega
  have hleast := h0.rounds 10 hcard hp
  refine hleast.extend (fun x hx => ((hVm x).mp hx).imp_left fun e => e.1) fun x hx hxV j => ?_
  rcases hx with hx | hx
  · exact hr.hidden hleast (fun c h1 h2 => (hVm _).mpr (.inl ⟨h1, c, rfl, h2⟩)) x hx hxV j
  · exact absurd ((hVm x).mpr (.inr hx)) hxV

end Cert.Top
-- ==== Proof.Read.lean ====
module

public import proofs.«01_k».proof.Proof.Steps
public import proofs.«01_k».proof.Proof.Rounds
public import Idealize.ShloMosaic.Lib.Pointwise

@[expose] public section

set_option maxRecDepth 16384

noncomputable section

namespace Cert.TopK

open Idealize.ShloMosaic Idealize.SL.Sem
open Cert.KernelIdeal Cert.KernelIdeal.Gen
open Cert.Top

/-! ## Constants -/

/-- The pattern of plus infinity denotes the top element. -/
theorem inf_top : Ideal.ofBits .f32 2139095040#32 = (⊤ : EReal) := by simp [Ideal.ofBits, Ideal.ieee]

/-- An entry of the array of infinities. -/
theorem infs_at (p : Fin 256) (l : Fin 128) : infs (F := Ideal) (ix2 p l : S256x128.Idx) = (⊤ : EReal) := by
  pointwise [infs]
  exact inf_top

/-- An entry of the array of minus ones. -/
theorem negs_at (p : Fin 256) (l : Fin 128) : negs (ix2 p l : S256x128.Idx) = noIdx := by
  pointwise [negs]

/-! ## The scan, lane by lane -/

/-- Of a compared pair the smaller value stays, -/
theorem inV_at (v s : FVec Ideal S256x128 .f32) (p : Fin 256) (l : Fin 128) : inV v s (ix2 p l : S256x128.Idx) = small (v (ix2 p l)) (s (ix2 p l)) := by
  pointwise [inV, small]
/-- the larger goes on, -/
theorem outV_at (v s : FVec Ideal S256x128 .f32) (p : Fin 256) (l : Fin 128) : outV v s (ix2 p l : S256x128.Idx) = big (v (ix2 p l)) (s (ix2 p l)) := by
  pointwise [outV, big]
/-- the index of the smaller stays, -/
theorem inI_at (v s : FVec Ideal S256x128 .f32) (i k : IVec S256x128 32) (p : Fin 256) (l : Fin 128) :
    inI v s i k (ix2 p l : S256x128.Idx) = smallI (v (ix2 p l)) (s (ix2 p l)) (i (ix2 p l)) (k (ix2 p l)) := by
  pointwise [inI, smallI]
/-- and that of the larger goes on. -/
theorem outI_at (v s : FVec Ideal S256x128 .f32) (i k : IVec S256x128 32) (p : Fin 256) (l : Fin 128) :
    outI v s i k (ix2 p l : S256x128.Idx) = bigI (v (ix2 p l)) (s (ix2 p l)) (i (ix2 p l)) (k (ix2 p l)) := by
  pointwise [outI, bigI]

/-- One lane of the stacks of one query. -/
def toLane (st : Stack Ideal) (p : Fin 256) (l : Fin 128) : Lane where
  m4 := st.m4 (ix2 p l)
  v0 := st.v0 (ix2 p l)
  i0 := st.i0 (ix2 p l)
  v1 := st.v1 (ix2 p l)
  i1 := st.i1 (ix2 p l)
  v2 := st.v2 (ix2 p l)
  i2 := st.i2 (ix2 p l)

/-- A lane of the empty stacks is empty. -/
theorem toLane_empty (p : Fin 256) (l : Fin 128) : toLane Stack.empty p l = Lane.empty := by
  simp only [toLane, Stack.empty, Lane.empty, infs_at, negs_at]

/-- Inserting a vector inserts one value per lane. -/
theorem toLane_push (st : Stack Ideal) (v : FVec Ideal S256x128 .f32) (vi : IVec S256x128 32) (p : Fin 256) (l : Fin 128) :
    toLane (st.push v vi) p l = (toLane st p l).push (v (ix2 p l)) (vi (ix2 p l)) := by
  have hm : minimumf st.m4 (st.fall v) (ix2 p l : S256x128.Idx) = (min (st.m4 (ix2 p l)) (st.fall v (ix2 p l)) : EReal) := by
    pointwise []
  simp only [toLane, Stack.push, Lane.push, hm]
  simp only [Stack.fall, inV_at, outV_at, inI_at, outI_at]

/-- The column of lane `l` in lane group `g`. -/
def colAt (g : ℕ) (l : Fin 128) : Fin 8192 := ⟨128 * (g % 64) + l.val, by have := Nat.mod_lt g (show 64 > 0 by decide); omega⟩

/-- A value of a lane group is one of its column, -/
theorem grpV_at (d : FVec Ideal S256x8192 .f32) (g : ℕ) (p : Fin 256) (l : Fin 128) : grpV d g (ix2 p l : S256x128.Idx) = d (ix2 p (colAt g l)) := by
  pointwise [grpV]
  rfl

/-- The number of the key in column `c` of the block starting at `base`. -/
def keyAt (base : BitVec 32) (c : ℕ) : BitVec 32 := base + BitVec.ofNat 32 c

/-- and its index is the number of that key. -/
theorem grpI_at (b : BitVec 32) (g : ℕ) (hg : g < 64) (p : Fin 256) (l : Fin 128) :
    grpI b lanes g (ix2 p l : S256x128.Idx) = keyAt b (colAt g l).val := by
  pointwise [grpI, lanes]
  show BitVec.ofNat 32 l.val + (b + BitVec.ofNat 32 (128 * g)) = b + BitVec.ofNat 32 (128 * (g % 64) + l.val)
  rw [Nat.mod_eq_of_lt hg, BitVec.ofNat_add]
  ac_rfl

/-- The stacks after `n` lane groups hold, in each lane, the scan of that lane's values. -/
theorem toLane_stackAt (d : FVec Ideal S256x8192 .f32) (b : BitVec 32) (s : BitVec 32 → EReal) (p : Fin 256) (l : Fin 128)
    (hs : ∀ c : Fin 8192, d (ix2 p c) = s (keyAt b c.val)) (n : ℕ) (hn : n ≤ 64) :
    toLane (stackAt d b lanes n) p l = laneAt s (fun g => keyAt b (colAt g l).val) n := by
  induction n with
  | zero => exact toLane_empty p l
  | succ n ih =>
    show toLane ((stackAt d b lanes n).push _ _) p l = (laneAt s _ n).push _ _
    rw [toLane_push, ih (by omega), grpV_at, grpI_at _ _ (by omega), hs]

/-! ## A least value and the least index at which it stands -/

/-- The least of a list of values is below them all and one of them. -/
theorem fold_min_spec {n : ℕ} (hn : 0 < n) (w : Fin n → EReal) :
    (∀ c, Finset.univ.fold min ⊤ w ≤ w c) ∧ ∃ c, w c = Finset.univ.fold min ⊤ w := by
  have h1 : ∀ c, Finset.univ.fold min ⊤ w ≤ w c := fun c => (Finset.fold_min_le _).mpr (.inr ⟨c, Finset.mem_univ c, le_rfl⟩)
  refine ⟨h1, ?_⟩
  rcases (Finset.fold_min_le _).mp (le_refl (Finset.univ.fold min ⊤ w)) with h | ⟨c, -, h⟩
  · exact ⟨⟨0, hn⟩, le_antisymm (le_trans le_top h) (h1 _)⟩
  · exact ⟨c, le_antisymm h (h1 c)⟩

/-- The smaller of two signed words is below both and one of them. -/
theorem minsi_le (x y : BitVec 32) : (IntOp.minsi x y).toInt ≤ x.toInt ∧ (IntOp.minsi x y).toInt ≤ y.toInt ∧ (IntOp.minsi x y = x ∨ IntOp.minsi x y = y) := by
  unfold IntOp.minsi
  split
  · next h => rw [BitVec.slt_iff_toInt_lt] at h; exact ⟨le_rfl, h.le, .inl rfl⟩
  · next h => rw [BitVec.slt_iff_toInt_lt] at h; exact ⟨not_lt.mp h, le_rfl, .inr rfl⟩

/-- The least of signed words is below them all, and one of them or the starting word. -/
theorem fold_minsi_spec {α : Type} [DecidableEq α] (b : BitVec 32) (f : α → BitVec 32) (S : Finset α) :
    (∀ c ∈ S, (S.fold IntOp.minsi b f).toInt ≤ (f c).toInt) ∧ (S.fold IntOp.minsi b f = b ∨ ∃ c ∈ S, f c = S.fold IntOp.minsi b f) := by
  induction S using Finset.induction_on with
  | empty => exact ⟨fun c hc => absurd hc (Finset.notMem_empty c), .inl rfl⟩
  | insert a S ha ih =>
    rw [Finset.fold_insert ha]
    obtain ⟨h1, h2, h3⟩ := minsi_le (f a) (S.fold IntOp.minsi b f)
    refine ⟨fun c hc => ?_, ?_⟩
    · rcases Finset.mem_insert.mp hc with rfl | hc
      · exact h1
      · exact h2.trans (ih.1 c hc)
    · rcases h3 with h3 | h3
      · exact .inr ⟨a, Finset.mem_insert_self a S, h3.symm⟩
      · rw [h3]
        exact ih.2.imp_right fun ⟨c, hc, e⟩ => ⟨c, Finset.mem_insert_of_mem hc, e⟩

open Classical in
/-- The least of the values `w`, and the least of the indices at which it stands, is a pair of the list. -/
theorem fold_pick {n : ℕ} (hn : 0 < n) (w : Fin n → EReal) (wi : Fin n → BitVec 32) (m : EReal) (sel : BitVec 32)
    (hm : m = Finset.univ.fold min ⊤ w)
    (hs : sel = Finset.univ.fold IntOp.minsi 2147483647#32 (fun x => if w x = m then wi x else 2147483647#32)) :
    (∀ c, m ≤ w c) ∧ ∃ c, w c = m ∧ wi c = sel := by
  obtain ⟨h1, c0, h2⟩ := fold_min_spec hn w
  rw [← hm] at h1 h2
  refine ⟨h1, ?_⟩
  obtain ⟨h3, h4⟩ := fold_minsi_spec 2147483647#32 (fun x => if w x = m then wi x else 2147483647#32) Finset.univ
  rw [← hs] at h3 h4
  have h5 : sel = 2147483647#32 → ∃ c, w c = m ∧ wi c = sel := fun e => by
    refine ⟨c0, h2, ?_⟩
    have h6 := h3 c0 (Finset.mem_univ _)
    rw [if_pos h2, e] at h6
    rw [e]
    have h7 : (2147483647#32 : BitVec 32).toInt = 2147483647 := by decide
    have h8 : (wi c0).toInt < 2 ^ 31 := by have := BitVec.toInt_lt (x := wi c0); simpa using this
    apply BitVec.eq_of_toInt_eq
    omega
  rcases h4 with h4 | ⟨c, -, h4⟩
  · exact h5 h4
  · by_cases hc : w c = m
    · exact ⟨c, hc, by rw [← h4, if_pos hc]⟩
    · rw [if_neg hc] at h4
      exact h5 h4.symm

/-- A list in two parts. -/
theorem pick_split {a b n : ℕ} (hab : a + b = n) (w : Fin n → EReal) (wi : Fin n → BitVec 32) (u : Fin a → EReal) (ui : Fin a → BitVec 32)
    (v : Fin b → EReal) (vi : Fin b → BitVec 32) (m : EReal) (sel : BitVec 32)
    (h1 : ∀ c : Fin a, w ⟨c.val, by omega⟩ = u c) (h1' : ∀ c : Fin a, wi ⟨c.val, by omega⟩ = ui c)
    (h2 : ∀ c : Fin b, w ⟨a + c.val, by omega⟩ = v c) (h2' : ∀ c : Fin b, wi ⟨a + c.val, by omega⟩ = vi c)
    (h : (∀ c, m ≤ w c) ∧ ∃ c, w c = m ∧ wi c = sel) : Pick u ui v vi m sel where
  le c := by rw [← h1]; exact h.1 _
  le' c := by rw [← h2]; exact h.1 _
  at_ := by
    obtain ⟨c, hc, hs⟩ := h.2
    by_cases hlt : c.val < a
    · exact .inl ⟨⟨c.val, hlt⟩, by rw [← h1]; exact hc, by rw [← h1']; exact hs⟩
    · have e : (⟨a + (c.val - a), by omega⟩ : Fin n) = c := Fin.ext (by show a + (c.val - a) = c.val; omega)
      exact .inr ⟨⟨c.val - a, by omega⟩, by rw [← h2]; show w ⟨a + (c.val - a), _⟩ = m; rw [e]; exact hc,
        by rw [← h2']; show wi ⟨a + (c.val - a), _⟩ = sel; rw [e]; exact hs⟩

/-! ## The selection, row by row -/

/-- One query's row of the selection's state. -/
def toRow (s : Sel Ideal) (p : Fin 256) : SelRow where
  rv c := s.rv (ix2 p c)
  v0 c := s.v0 (ix2 p c)
  i0 c := s.i0 (ix2 p c)
  v1 c := s.v1 (ix2 p c)
  i1 c := s.i1 (ix2 p c)
  v2 c := s.v2 (ix2 p c)
  i2 c := s.i2 (ix2 p c)
  pc c := s.pc (ix2 p c)

/-- The row of the starting state. -/
theorem toRow_start (rv : FVec Ideal S256x128 .f32) (st : Stack Ideal) (p : Fin 256) :
    toRow (Sel.start rv st) p = SelRow.start (fun c => rv (ix2 p c)) (fun l => toLane st p l) := by
  have h0 : ∀ c : Fin 128, (broadcast S256x128 0#32 : IVec S256x128 32) (ix2 p c) = 0#32 := fun c => by pointwise []
  simp only [toRow, Sel.start, SelRow.start, toLane, h0]

/-- The value of a round is the least of the row. -/
theorem val_at (s : Sel Ideal) (p : Fin 256) (l : Fin 1) :
    s.val (ix2 p l : S256x1.Idx) = Finset.univ.fold min (⊤ : EReal) (fun x : Fin 256 => s.wv (ix2 p x)) := by
  pointwise [Sel.val]
  rw [inf_top]

open Classical in
/-- The index of a round is the least among those at which the value stands. -/
theorem idx_at (ri : IVec S256x128 32) (s : Sel Ideal) (p : Fin 256) (l : Fin 1) :
    s.idx ri (ix2 p l : S256x1.Idx) = Finset.univ.fold IntOp.minsi 2147483647#32 (fun x : Fin 256 => if s.wv (ix2 p x) = s.val (ix2 p 0) then
      s.wi ri (ix2 p x) else 2147483647#32) := by
  pointwise [Sel.idx, Sel.cand, Sel.eqs]

/-- The values searched: first the running list's, -/
theorem wv_lo (s : Sel Ideal) (p : Fin 256) (c : Fin 128) : s.wv (ix2 p (⟨c.val, by omega⟩ : Fin 256) : S256x256.Idx) = s.rv (ix2 p c) := by
  pointwise [Sel.wv]
/-- then the lanes' heads'; -/
theorem wv_hi (s : Sel Ideal) (p : Fin 256) (c : Fin 128) : s.wv (ix2 p (⟨128 + c.val, by omega⟩ : Fin 256) : S256x256.Idx) = s.v0 (ix2 p c) := by
  pointwise [Sel.wv]
/-- their indices: first the running list's, -/
theorem wi_lo (ri : IVec S256x128 32) (s : Sel Ideal) (p : Fin 256) (c : Fin 128) :
    s.wi ri (ix2 p (⟨c.val, by omega⟩ : Fin 256) : S256x256.Idx) = ri (ix2 p c) := by
  pointwise [Sel.wi]
/-- then the lanes' heads'. -/
theorem wi_hi (ri : IVec S256x128 32) (s : Sel Ideal) (p : Fin 256) (c : Fin 128) :
    s.wi ri (ix2 p (⟨128 + c.val, by omega⟩ : Fin 256) : S256x256.Idx) = s.i0 (ix2 p c) := by
  pointwise [Sel.wi]

/-- A round takes a least value of the row, with an index at which it stands. -/
theorem sel_pick (ri : IVec S256x128 32) (s : Sel Ideal) (p : Fin 256) :
    Pick (toRow s p).rv (fun c => ri (ix2 p c)) (toRow s p).v0 (toRow s p).i0 (s.val (ix2 p 0)) (s.idx ri (ix2 p 0)) :=
  pick_split (n := 256) rfl (fun x => s.wv (ix2 p x)) (fun x => s.wi ri (ix2 p x)) _ _ _ _ _ _
    (wv_lo s p) (wi_lo ri s p) (wv_hi s p) (wi_hi ri s p)
    (fold_pick (by decide) _ _ _ _ (val_at s p 0) (idx_at ri s p 0))

/-- A choice by equality of words. -/
theorem select_eq {α : Type} (a b : BitVec 32) (x y : α) : Scalar.select (IntOp.cmpi .eq a b) x y = if a = b then x else y := by
  by_cases h : a = b
  · subst h; simp [Scalar.select, IntOp.cmpi]
  · have e : (a == b) = false := beq_eq_false_iff_ne.mpr h
    rw [if_neg h]; unfold Scalar.select IntOp.cmpi; simp only [e]; rfl
/-- Equality of words as a word. -/
theorem extui_eq (a b : BitVec 32) : BitVec.setWidth 32 (IntOp.cmpi .eq a b) = if a = b then 1#32 else 0#32 := by
  by_cases h : a = b
  · subst h; simp [IntOp.cmpi]
  · have e : (a == b) = false := beq_eq_false_iff_ne.mpr h
    rw [if_neg h]; unfold IntOp.cmpi; simp only [e]; rfl

/-- The row of the next state. -/
theorem toRow_next (ri : IVec S256x128 32) (s : Sel Ideal) (p : Fin 256) :
    toRow (s.next ri) p = (toRow s p).next (fun c => ri (ix2 p c)) (s.idx ri (ix2 p 0)) := by
  simp only [toRow, SelRow.next, SelRow.mk.injEq]
  refine ⟨?_, ?_, ?_, ?_, ?_, ?_, ?_, ?_⟩ <;> funext c <;> pointwise [Sel.next, Sel.pop, Sel.sel, infs, negs] <;>
    simp only [select_eq, extui_eq, inf_top]
  all_goals rfl

/-- The rows of the selection's states are the states of the row's selection. -/
theorem toRow_selAt (ri : IVec S256x128 32) (s : Sel Ideal) (p : Fin 256) (n : ℕ) :
    toRow (selAt ri s n) p = selRowAt (fun c => ri (ix2 p c)) (fun k => (selAt ri s k).idx ri (ix2 p 0)) (toRow s p) n := by
  induction n with
  | zero => rfl
  | succ n ih =>
    show toRow ((selAt ri s n).next ri) p = (selRowAt _ _ _ n).next _ _
    rw [toRow_next, ih]

/-! ## The packed results -/

/-- A column below ten holds its round's value, the others plus infinity. -/
theorem packV_at (f : ℕ → FVec Ideal S256x1 .f32) (p : Fin 256) (c : Fin 128) :
    packV f (ix2 p c : S256x128.Idx) = if c.val < 10 then f c.val (ix2 p 0) else (⊤ : EReal) := by
  pointwise [packV]
  by_cases h : c.val < 10
  · rw [if_pos h]
    obtain ⟨c, hc⟩ := c
    replace h : c < 10 := h
    interval_cases c <;> rfl
  · rw [if_neg h]
    split_ifs <;> first | omega | exact inf_top

/-- The packed indices: ten rounds, then minus ones. -/
theorem packI_at (f : ℕ → IVec S256x1 32) (p : Fin 256) (c : Fin 128) :
    packI f (ix2 p c : S256x128.Idx) = if c.val < 10 then f c.val (ix2 p 0) else noIdx := by
  pointwise [packI]
  by_cases h : c.val < 10
  · rw [if_pos h]
    obtain ⟨c, hc⟩ := c
    replace h : c < 10 := h
    interval_cases c <;> rfl
  · rw [if_neg h]
    split_ifs <;> first | omega | rfl

/-- The same of the fallback's values -/
theorem packV'_at (f : ℕ → FVec Ideal S256x1 .f32) (p : Fin 256) (c : Fin 128) :
    packV' f (ix2 p c : S256x128.Idx) = if c.val < 10 then f c.val (ix2 p 0) else (⊤ : EReal) := by
  pointwise [packV']
  by_cases h : c.val < 10
  · rw [if_pos h]
    obtain ⟨c, hc⟩ := c
    replace h : c < 10 := h
    interval_cases c <;> rfl
  · rw [if_neg h]
    iterate 10 refine (dif_neg (by omega)).trans ?_
    exact inf_top

/-- and indices. -/
theorem packI'_at (f : ℕ → IVec S256x1 32) (p : Fin 256) (c : Fin 128) :
    packI' f (ix2 p c : S256x128.Idx) = if c.val < 10 then f c.val (ix2 p 0) else noIdx := by
  pointwise [packI']
  by_cases h : c.val < 10
  · rw [if_pos h]
    obtain ⟨c, hc⟩ := c
    replace h : c < 10 := h
    interval_cases c <;> rfl
  · rw [if_neg h]
    iterate 10 refine (dif_neg (by omega)).trans ?_
    rfl

/-! ## The test for hidden values -/

/-- Without overflow no emptied lane has a fourth value at or below the tenth. -/
theorem no_hidden (m4 : FVec Ideal S256x128 .f32) (tau : FVec Ideal S256x1 .f32) (pc : IVec S256x128 32) (h : ¬overflow m4 tau pc) (p : Fin 256) (l : Fin 128) :
    ¬((3#32).sle (pc (ix2 p l)) = true ∧ (m4 (ix2 p l) : EReal) ≤ tau (ix2 p 0)) := by
  unfold overflow at h
  pointwise [] at h
  rintro ⟨h1, h2⟩
  have h3 : ovfMask m4 tau pc (ix2 p l : S256x128.Idx) = (1 : EReal) := by
    pointwise [ovfMask]
    have h4 : IntOp.cmpi .sge (pc (ix2 p l)) 3#32 = 1#1 := by
      show BitVec.ofBool ((3#32).sle (pc (ix2 p l))) = 1#1
      rw [h1]; rfl
    rw [h4, decide_eq_true h2]
    rfl
  refine h ?_
  rw [decide_eq_true]
  · rfl
  · exact lt_of_lt_of_le (by rw [h3]; exact zero_lt_one) ((Finset.le_fold_max _).mpr (.inr ⟨(p, l), Finset.mem_univ _, le_rfl⟩))

/-! ## The fallback -/

/-- The least value of a row of the fallback. -/
theorem fullMin_at (x : FVec Ideal S256x8320 .f32) (p : Fin 256) (l : Fin 1) :
    fullMin x (ix2 p l : S256x1.Idx) = Finset.univ.fold min (⊤ : EReal) (fun c : Fin 8320 => x (ix2 p c)) := by
  pointwise [fullMin]
  rw [inf_top]

open Classical in
/-- The least index at which it stands. -/
theorem fullIdx_at (wi : IVec S256x8320 32) (x : FVec Ideal S256x8320 .f32) (p : Fin 256) (l : Fin 1) :
    fullIdx wi x (ix2 p l : S256x1.Idx) = Finset.univ.fold IntOp.minsi 2147483647#32 (fun c : Fin 8320 => if x (ix2 p c) = fullMin x (ix2 p 0) then
      wi (ix2 p c) else 2147483647#32) := by
  pointwise [fullIdx]

/-- A round of the fallback removes the entries with the index taken. -/
theorem fullNext_at (wi : IVec S256x8320 32) (x : FVec Ideal S256x8320 .f32) (p : Fin 256) (c : Fin 8320) :
    fullNext wi x (ix2 p c : S256x8320.Idx) = if wi (ix2 p c) = fullIdx wi x (ix2 p 0) then (⊤ : EReal) else x (ix2 p c) := by
  pointwise [fullNext]
  simp only [select_eq, inf_top]

/-- The fallback's values: first the running list's, -/
theorem fullV_lo (rv : FVec Ideal S256x128 .f32) (d : FVec Ideal S256x8192 .f32) (p : Fin 256) (c : Fin 128) :
    fullV rv d (ix2 p (⟨c.val, by omega⟩ : Fin 8320) : S256x8320.Idx) = rv (ix2 p c) := by
  pointwise [fullV]
/-- then the block's scores; -/
theorem fullV_hi (rv : FVec Ideal S256x128 .f32) (d : FVec Ideal S256x8192 .f32) (p : Fin 256) (c : Fin 8192) :
    fullV rv d (ix2 p (⟨128 + c.val, by omega⟩ : Fin 8320) : S256x8320.Idx) = d (ix2 p c) := by
  pointwise [fullV]
/-- its indices: first the running list's, -/
theorem fullI_lo (ri : IVec S256x128 32) (b : BitVec 32) (p : Fin 256) (c : Fin 128) :
    fullI ri b (ix2 p (⟨c.val, by omega⟩ : Fin 8320) : S256x8320.Idx) = ri (ix2 p c) := by
  pointwise [fullI]
/-- then the numbers of the block's keys. -/
theorem fullI_hi (ri : IVec S256x128 32) (b : BitVec 32) (p : Fin 256) (c : Fin 8192) :
    fullI ri b (ix2 p (⟨128 + c.val, by omega⟩ : Fin 8320) : S256x8320.Idx) = keyAt b c.val := by
  pointwise [fullI]
  rfl

/-- The fallback's values after `n` rounds, in the two parts of a row. -/
theorem fullAt_lo (ri : IVec S256x128 32) (b : BitVec 32) (rv : FVec Ideal S256x128 .f32) (d : FVec Ideal S256x8192 .f32) (p : Fin 256) (c : Fin 128) (n : ℕ) :
    fullAt (fullI ri b) (fullV rv d) n (ix2 p (⟨c.val, by omega⟩ : Fin 8320) : S256x8320.Idx) =
      killAt (fun c => ri (ix2 p c)) (fun k => fullIdx (fullI ri b) (fullAt (fullI ri b) (fullV rv d) k) (ix2 p 0)) (fun c => rv (ix2 p c)) n c := by
  induction n with
  | zero => exact fullV_lo rv d p c
  | succ n ih =>
    show fullNext _ _ _ = _
    rw [fullNext_at, ih, fullI_lo]
    rfl

/-- The second part: the block's scores. -/
theorem fullAt_hi (ri : IVec S256x128 32) (b : BitVec 32) (rv : FVec Ideal S256x128 .f32) (d : FVec Ideal S256x8192 .f32) (p : Fin 256) (c : Fin 8192) (n : ℕ) :
    fullAt (fullI ri b) (fullV rv d) n (ix2 p (⟨128 + c.val, by omega⟩ : Fin 8320) : S256x8320.Idx) =
      killAt (fun c : Fin 8192 => keyAt b c.val) (fun k => fullIdx (fullI ri b) (fullAt (fullI ri b) (fullV rv d) k) (ix2 p 0)) (fun c => d (ix2 p c)) n c := by
  induction n with
  | zero => exact fullV_hi rv d p c
  | succ n ih =>
    show fullNext _ _ _ = _
    rw [fullNext_at, ih, fullI_hi]
    rfl

/-- A round of the fallback takes a least value of the row, with an index at which it stands. -/
theorem full_pick (ri : IVec S256x128 32) (b : BitVec 32) (rv : FVec Ideal S256x128 .f32) (d : FVec Ideal S256x8192 .f32) (p : Fin 256) (n : ℕ) :
    Pick (killAt (fun c => ri (ix2 p c)) (fun k => fullIdx (fullI ri b) (fullAt (fullI ri b) (fullV rv d) k) (ix2 p 0)) (fun c => rv (ix2 p c)) n)
      (fun c => ri (ix2 p c))
      (killAt (fun c : Fin 8192 => keyAt b c.val) (fun k => fullIdx (fullI ri b) (fullAt (fullI ri b) (fullV rv d) k) (ix2 p 0)) (fun c => d (ix2 p c)) n)
      (fun c : Fin 8192 => keyAt b c.val) (fullMin (fullAt (fullI ri b) (fullV rv d) n) (ix2 p 0))
      (fullIdx (fullI ri b) (fullAt (fullI ri b) (fullV rv d) n) (ix2 p 0)) :=
  pick_split (n := 8320) rfl (fun x => fullAt (fullI ri b) (fullV rv d) n (ix2 p x)) (fun x => fullI ri b (ix2 p x)) _ _ _ _ _ _
    (fun c => fullAt_lo ri b rv d p c n) (fullI_lo ri b p) (fun c => fullAt_hi ri b rv d p c n) (fullI_hi ri b p)
    (fold_pick (by decide) _ _ _ _ (fullMin_at _ p 0) (fullIdx_at _ _ p 0))

end Cert.TopK
end
-- ==== Proof.Step.lean ====
module

public import proofs.«01_k».proof.Proof.Read

@[expose] public section

set_option maxRecDepth 16384

noncomputable section

namespace Cert.TopK

open Idealize.ShloMosaic Idealize.SL.Sem
open Cert.KernelIdeal Cert.KernelIdeal.Gen
open Cert.Top

/-! ## The keys of a block -/

/-- The keys before block `b`. -/
def Seen (b : ℕ) (x : BitVec 32) : Prop := x.toNat < 8192 * b
/-- The keys of block `b`. -/
def InBlock (b : ℕ) (x : BitVec 32) : Prop := 8192 * b ≤ x.toNat ∧ x.toNat < 8192 * (b + 1)
/-- The lane of a key. -/
def home (x : BitVec 32) : Fin 128 := ⟨x.toNat % 128, Nat.mod_lt _ (by decide)⟩

/-- The keys seen after a block: those before, and those of the block. -/
theorem seen_succ (b : ℕ) : Seen (b + 1) = fun x => Seen b x ∨ InBlock b x := by
  funext x
  apply propext
  show x.toNat < 8192 * (b + 1) ↔ x.toNat < 8192 * b ∨ (8192 * b ≤ x.toNat ∧ x.toNat < 8192 * (b + 1))
  omega

/-- The number of a key of block `b`. -/
theorem keyAt_toNat (i : grid0.Coords) (c : ℕ) (hc : c < 8192) : (keyAt (baseOf i) c).toNat = 8192 * (i 1).val + c := by
  have hi : (i 1).val < 13 := (i 1).isLt
  show (BitVec.ofNat 32 (i 1).val * 8192#32 + BitVec.ofNat 32 c).toNat = _
  rw [BitVec.toNat_add, BitVec.toNat_mul, BitVec.toNat_ofNat, BitVec.toNat_ofNat, BitVec.toNat_ofNat]
  omega

/-- A key number is not minus one. -/
theorem ne_noIdx (x : BitVec 32) (h : x.toNat < 106496) : x ≠ noIdx := by
  rintro rfl
  exact absurd h (by decide)

/-- Nor is that of a column of a block. -/
theorem keyAt_ne (i : grid0.Coords) (c : ℕ) (hc : c < 8192) : keyAt (baseOf i) c ≠ noIdx := by
  have hi : (i 1).val < 13 := (i 1).isLt
  exact ne_noIdx _ (by rw [keyAt_toNat i c hc]; omega)

/-- Different columns are different keys. -/
theorem keyAt_inj (i : grid0.Coords) (a c : ℕ) (ha : a < 8192) (hc : c < 8192) (h : keyAt (baseOf i) a = keyAt (baseOf i) c) : a = c := by
  have := congrArg BitVec.toNat h
  rw [keyAt_toNat i a ha, keyAt_toNat i c hc] at this
  omega

/-- A column of a block is one of its keys. -/
theorem inBlock_keyAt (i : grid0.Coords) (c : Fin 8192) : InBlock (i 1).val (keyAt (baseOf i) c.val) := by
  unfold InBlock
  rw [keyAt_toNat i _ c.isLt]
  omega

/-- Every key of a block is one of its columns. -/
theorem exists_keyAt (i : grid0.Coords) (x : BitVec 32) (h : InBlock (i 1).val x) : ∃ c : Fin 8192, keyAt (baseOf i) c.val = x := by
  unfold InBlock at h
  refine ⟨⟨x.toNat - 8192 * (i 1).val, by omega⟩, BitVec.eq_of_toNat_eq ?_⟩
  rw [keyAt_toNat i _ (by omega)]
  show 8192 * (i 1).val + (x.toNat - 8192 * (i 1).val) = x.toNat
  omega

/-- The keys a lane sees in a block are the block's keys of that lane. -/
theorem lane_keys (i : grid0.Coords) (l : Fin 128) :
    (fun x => ∃ a, a < 64 ∧ keyAt (baseOf i) (colAt a l).val = x) = fun x => InBlock (i 1).val x ∧ home x = l := by
  have hi : (i 1).val < 13 := (i 1).isLt
  funext x
  apply propext
  constructor
  · rintro ⟨a, ha, rfl⟩
    refine ⟨inBlock_keyAt i _, Fin.ext ?_⟩
    show (keyAt (baseOf i) (colAt a l).val).toNat % 128 = l.val
    rw [keyAt_toNat i _ (colAt a l).isLt]
    show (8192 * (i 1).val + (128 * (a % 64) + l.val)) % 128 = l.val
    omega
  · rintro ⟨h, rfl⟩
    obtain ⟨c, rfl⟩ := exists_keyAt i x h
    refine ⟨c.val / 128, by omega, ?_⟩
    congr 1
    show 128 * (c.val / 128 % 64) + (keyAt (baseOf i) c.val).toNat % 128 = c.val
    rw [keyAt_toNat i _ c.isLt]
    omega

/-- Every lane has a key in every block. -/
theorem lane_nonempty (i : grid0.Coords) (l : Fin 128) : ∃ x, InBlock (i 1).val x ∧ home x = l := by
  have h := congrFun (lane_keys i l) (keyAt (baseOf i) (colAt 0 l).val)
  have h' : ∃ a, a < 64 ∧ keyAt (baseOf i) (colAt a l).val = keyAt (baseOf i) (colAt 0 l).val := ⟨0, by decide, rfl⟩
  exact ⟨_, Eq.mp h h'⟩

/-- The scan of a block holds, in each lane, what a lane holds after the block's keys of that lane. -/
theorem block_lanes (i : grid0.Coords) (q : FVec Ideal S256x128 .f32) (k : FVec Ideal S128x8192 .f32) (s : BitVec 32 → EReal) (p : Fin 256)
    (hs : ∀ c : Fin 8192, scores q k (ix2 p c) = s (keyAt (baseOf i) c.val)) (l : Fin 128) :
    LaneOk s (fun x => InBlock (i 1).val x ∧ home x = l) (toLane (blockStack i q k) p l) := by
  unfold blockStack
  rw [toLane_stackAt _ _ s p l hs 64 le_rfl, ← lane_keys]
  refine laneAt_ok s _ 64 (fun a b ha hb h => ?_) fun a _ => keyAt_ne i _ (colAt a l).isLt
  have := keyAt_inj i _ _ (colAt a l).isLt (colAt b l).isLt h
  replace this : 128 * (a % 64) + l.val = 128 * (b % 64) + l.val := this
  omega

/-! ## One block's step keeps the ten least -/

/-- Ten least values, padded with plus infinity. -/
theorem runOk_of_least {s : BitVec 32 → EReal} {U : BitVec 32 → Prop} {ms : ℕ → EReal} {sels : ℕ → BitVec 32} {rv : Fin 128 → EReal} {ri : Fin 128 → BitVec 32}
    (h : Least 10 s U (fun j => ms j.val) (fun j => sels j.val)) (hv : ∀ c : Fin 128, rv c = if c.val < 10 then ms c.val else ⊤)
    (hi : ∀ c : Fin 128, ri c = if c.val < 10 then sels c.val else noIdx) : RunOk s U rv ri where
  tail c hc := by rw [hv, if_neg (by omega)]
  head := .inr (by
    have e1 : (fun j : Fin 10 => rv (j.castLE (by decide))) = fun j => ms j.val := funext fun j => (hv _).trans (if_pos j.isLt)
    have e2 : (fun j : Fin 10 => ri (j.castLE (by decide))) = fun j => sels j.val := funext fun j => (hi _).trans (if_pos j.isLt)
    rw [e1, e2]
    exact h)

/-- If the running list holds the ten least of the keys before a block, after the block it holds the ten least of the keys through it. -/
theorem step_ok (i : grid0.Coords) (q : FVec Ideal S256x128 .f32) (k : FVec Ideal S128x8192 .f32) (rv : FVec Ideal S256x128 .f32)
    (ri : IVec S256x128 32) (s : BitVec 32 → EReal) (p : Fin 256)
    (hs : ∀ c : Fin 8192, scores q k (ix2 p c) = s (keyAt (baseOf i) c.val)) (hfin : ∀ x : BitVec 32, x.toNat < 106496 → s x < ⊤)
    (hr : RunOk s (Seen (i 1).val) (fun c => rv (ix2 p c)) (fun c => ri (ix2 p c))) :
    RunOk s (Seen ((i 1).val + 1)) (fun c => stepV i q k rv ri (ix2 p c)) (fun c => stepI i q k rv ri (ix2 p c)) := by
  have hi : (i 1).val < 13 := (i 1).isLt
  have hU : ∀ x, Seen (i 1).val x → s x < ⊤ ∧ x ≠ noIdx := fun x hx => by
    have : x.toNat < 106496 := by unfold Seen at hx; omega
    exact ⟨hfin x this, ne_noIdx x this⟩
  have hB : ∀ x, InBlock (i 1).val x → s x < ⊤ ∧ x ≠ noIdx := fun x hx => by
    have : x.toNat < 106496 := by unfold InBlock at hx; omega
    exact ⟨hfin x this, ne_noIdx x this⟩
  rw [seen_succ]
  by_cases ho : blockOvf i q k rv ri
  · refine runOk_of_least (full_least (i' := fun c : Fin 8192 => keyAt (baseOf i) c.val) (w' := fun c => scores q k (ix2 p c)) (by decide) hr
      (fun a b h => Fin.ext (keyAt_inj i _ _ a.isLt b.isLt h)) (fun c => inBlock_keyAt i c) (fun x hx => exists_keyAt i x hx) hs
      (fun x hx => (hU x hx).1) (fun x hx => (hB x hx).1) (fun n _ => full_pick ri (baseOf i) rv (scores q k) p n)) (fun c => ?_) fun c => ?_
    · unfold stepV
      rw [if_pos ho, packV'_at]
    · unfold stepI
      rw [if_pos ho, packI'_at]
  · have hrow : ∀ n, toRow (blockSel i q k rv ri n) p = selRowAt (fun c => ri (ix2 p c)) (fun j => (blockSel i q k rv ri j).idx ri (ix2 p 0))
        (SelRow.start (fun c => rv (ix2 p c)) fun l => toLane (blockStack i q k) p l) n := fun n => by
      rw [← toRow_start]
      exact toRow_selAt ri _ p n
    have hp : ∀ n, n < 10 → Pick (selRowAt (fun c => ri (ix2 p c)) (fun j => (blockSel i q k rv ri j).idx ri (ix2 p 0))
        (SelRow.start (fun c => rv (ix2 p c)) fun l => toLane (blockStack i q k) p l) n).rv (fun c => ri (ix2 p c)) (selRowAt (fun c => ri (ix2 p c)) (fun j => (blockSel i q k rv ri j).idx ri (ix2 p 0))
        (SelRow.start (fun c => rv (ix2 p c)) fun l => toLane (blockStack i q k) p l) n).v0 (selRowAt (fun c => ri (ix2 p c)) (fun j => (blockSel i q k rv ri j).idx ri (ix2 p 0))
        (SelRow.start (fun c => rv (ix2 p c)) fun l => toLane (blockStack i q k) p l) n).i0
        ((blockSel i q k rv ri n).val (ix2 p 0)) ((blockSel i q k rv ri n).idx ri (ix2 p 0)) := fun n _ => by
      rw [← hrow n]
      exact sel_pick ri (blockSel i q k rv ri n) p
    have hno : ∀ l, ¬((3#32).sle ((selRowAt (fun c => ri (ix2 p c)) (fun j => (blockSel i q k rv ri j).idx ri (ix2 p 0))
        (SelRow.start (fun c => rv (ix2 p c)) fun l => toLane (blockStack i q k) p l) 10).pc l) = true ∧
        (toLane (blockStack i q k) p l).m4 ≤ (blockSel i q k rv ri 9).val (ix2 p 0)) := fun l => by
      rw [← hrow 10]
      exact no_hidden _ _ _ ho p l
    have hl := sel_least (ms := fun n => (blockSel i q k rv ri n).val (ix2 p 0)) (sels := fun n => (blockSel i q k rv ri n).idx ri (ix2 p 0)) hr
      (block_lanes i q k s p hs) (lane_nonempty i) (fun x hx hx' => by unfold InBlock at hx; unfold Seen at hx'; omega) hU hB hp hno
    refine runOk_of_least (ms := fun n => (blockSel i q k rv ri n).val (ix2 p 0)) (sels := fun n => (blockSel i q k rv ri n).idx ri (ix2 p 0)) hl (fun c => ?_) fun c => ?_
    · unfold stepV
      rw [if_neg ho, packV_at]
    · unfold stepI
      rw [if_neg ho, packI_at]

/-- Before the first block nothing is kept. -/
theorem init_ok (s : BitVec 32 → EReal) (p : Fin 256) :
    RunOk s (Seen 0) (fun c => (initV : FVec Ideal S256x128 .f32) (ix2 p c)) (fun c => initI (ix2 p c)) := by
  have h : ∀ c : Fin 128, (initV : FVec Ideal S256x128 .f32) (ix2 p c) = (⊤ : EReal) := fun c => by
    pointwise [initV, infs]
    exact inf_top
  exact ⟨fun c _ => h c, .inl ⟨h, fun x hx => by unfold Seen at hx; omega⟩⟩

end Cert.TopK
end
-- ==== Proof.Outer.lean ====
module

public import proofs.«01_k».proof.Proof.Step
public import proofs.«01_k».proof.Proof.Run
public import Idealize.ShloMosaic.Lib.Pipeline.ValueKit

@[expose] public section

set_option maxRecDepth 16384

noncomputable section

namespace Cert.TopK

open Idealize.ShloMosaic Idealize.ShloMosaic.TcCoe Idealize.SL.Sem
open Idealize.ShloMosaic.Pipeline (Dat)
open Cert.KernelIdeal Cert.KernelIdeal.Gen
open Cert.Top

variable (m : (ℓ : Loc nD τ sig) → Buf (Elt Ideal) ℓ)

/-- The blocks of the four tiles at a point. -/
theorem idx : ∀ t : Fin cfg0.N, win0_0.index t = ![t.val / 13, 0] ∧ win0_1.index t = ![0, t.val % 13] ∧ win0_2.index t = ![t.val / 13, 0] ∧
    win0_3.index t = ![t.val / 13, 0] := (by decide +kernel : ∀ t : Fin grid0.N, _)

/-- The block of keys at a point. -/
theorem coord1 (t : Fin cfg0.N) : (grid0.coords t 1).val = t.val % 13 := by
  have e : (grid0.coords t 1).val = t.val / 1 % 13 := Pipeline.Grid.coords_val t 1 (by decide) rfl
  omega

/-- There are fifty-two points. -/
theorem point_lt (t : Fin cfg0.N) : t.val < 52 := t.isLt.trans_eq (by decide)

/-! ## The arrays the region works on -/

/-- The query array of the region: the queries times minus two. -/
abbrev QA (A : FVec Ideal S1024x128 .f32) : FVec Ideal S1024x128 .f32 :=
  mulf A (broadcastInDim S1024x128 ![] bcast_S_S1024x128 (constant S_ .f32 0xC0000000#32))
/-- The key array of the region: the keys, padded with ten thousands, transposed. -/
abbrev KA (B : FVec Ideal S100000x128 .f32) : FVec Ideal S128x106496 .f32 :=
  transpose S128x106496 [1, 0] (pad S106496x128 ![0, 0] ![6496, 0] ![0, 0] B (constant S_ .f32 0x461C4000#32)
    pads_S100000x128_S106496x128_064960_000 h_S_) transposes_S106496x128_S128x106496_1_0

/-- The region finds the scaled queries in its first array -/
theorem V_v3 (c : Dev nD) : V m c main_v3 = QA (m ((c : Thread nD τ).loc main_arg0)) := by
  show StableHlo.after (List.flatten [hostOps0, hostOps0_1, hostOps0_2]) _ _ = _
  simp only [hostOps0, hostOps0_1, hostOps0_2, List.flatten_cons, List.flatten_nil, List.append_nil, List.cons_append, List.nil_append]
  after_results
/-- and the padded, transposed keys in its second. -/
theorem V_v1 (c : Dev nD) : V m c main_v1 = KA (m ((c : Thread nD τ).loc main_arg1)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The score of key `x` for row `r`: the product with the row plus the key's squared norm. -/
def sc (Q : FVec Ideal S1024x128 .f32) (K : FVec Ideal S128x106496 .f32) (r : Fin 1024) (x : BitVec 32) : EReal :=
  if h : x.toNat < 106496 then
    ∑ d : Fin 128, Q (ix2 r d) * K (ix2 d (⟨x.toNat, h⟩ : Fin 106496)) + ∑ d : Fin 128, K (ix2 d (⟨x.toNat, h⟩ : Fin 106496)) * K (ix2 d (⟨x.toNat, h⟩ : Fin 106496))
  else 0

/-- A score of a tile, written out. -/
theorem scores_at (q : FVec Ideal S256x128 .f32) (k : FVec Ideal S128x8192 .f32) (p : Fin 256) (c : Fin 8192) :
    scores q k (ix2 p c : S256x8192.Idx) = (∑ x : Fin 128, q (ix2 p x) * k (ix2 x c) + ∑ x : Fin 128, k (ix2 x c) * k (ix2 x c) : EReal) := by
  pointwise [scores, k0_pay40, k0_pay39]

/-- The row of the query array that a point's tile row `p` is. -/
def rowAt (n : ℕ) (hn : n < 52) (p : Fin 256) : Fin 1024 := ⟨256 * (n / 13) + p.val, by omega⟩

/-- An entry of the query tile is one of the array, -/
theorem qAt_at (c : Dev nD) (t : Fin cfg0.N) (p : Fin 256) (d : Fin 128) :
    qAt m c t (ix2 p d : S256x128.Idx) = (V m c main_v3 : FVec Ideal S1024x128 .f32) (ix2 (rowAt t.val (point_lt t) p) d) := by
  show iblk m c 0 t _ = _
  unfold rowAt
  blk_ext [iblk, idx t]
/-- and so is an entry of the key tile. -/
theorem kAt_at (c : Dev nD) (t : Fin cfg0.N) (d : Fin 128) (x : Fin 8192) :
    kAt m c t (ix2 d x : S128x8192.Idx) = (V m c main_v1 : FVec Ideal S128x106496 .f32) (ix2 d (⟨8192 * (t.val % 13) + x.val, by omega⟩ : Fin 106496)) := by
  show iblk m c 1 t _ = _
  blk_ext [iblk, idx t]

/-- The first points of a row of blocks. -/
theorem first_iff : ∀ t : Fin cfg0.N, first (grid0.coords t) ↔ t.val % 13 = 0 := (by decide +kernel : ∀ t : Fin grid0.N, _)

/-- A point's scores are the arrays' scores. -/
theorem scores_sc (c : Dev nD) (t : Fin cfg0.N) (p : Fin 256) (x : Fin 8192) :
    scores (qAt m c t) (kAt m c t) (ix2 p x) = sc (V m c main_v3) (V m c main_v1) (rowAt t.val (point_lt t) p) (keyAt (baseOf (grid0.coords t)) x.val) := by
  have hk := keyAt_toNat (grid0.coords t) x.val x.isLt
  rw [coord1] at hk
  have hx : (keyAt (baseOf (grid0.coords t)) x.val).toNat < 106496 := by rw [hk]; omega
  rw [scores_at]
  unfold sc
  rw [dif_pos hx]
  have e : (⟨(keyAt (baseOf (grid0.coords t)) x.val).toNat, hx⟩ : Fin 106496) = ⟨8192 * (t.val % 13) + x.val, by omega⟩ := Fin.ext hk
  rw [e]
  simp only [qAt_at, kAt_at]

/-! ## The running list after each point -/

/-- At a first block the running values begin as set, -/
theorem begV_pos (i : grid0.Coords) (h : first i) (x : Vec Ideal S256x128 .f32) : begV (F := Ideal) i x = (initV : FVec Ideal S256x128 .f32) := by unfold begV; exact if_pos h
/-- at another they stay; -/
theorem begV_neg (i : grid0.Coords) (h : ¬first i) (x : Vec Ideal S256x128 .f32) : begV i x = x := by unfold begV; exact if_neg h
/-- the running indices likewise begin as set -/
theorem begI_pos (i : grid0.Coords) (h : first i) (x : Vec Ideal S256x128 .i32) : begI (F := Ideal) i x = initI := by unfold begI; exact if_pos h
/-- or stay. -/
theorem begI_neg (i : grid0.Coords) (h : ¬first i) (x : Vec Ideal S256x128 .i32) : begI (F := Ideal) i x = x := by unfold begI; exact if_neg h

/-- After a point, each row's running list holds the ten keys of least score among those the row has seen. -/
theorem scr_ok (c : Dev nD) (p : Fin 256)
    (hfin : ∀ (r : Fin 1024) (x : BitVec 32), x.toNat < 106496 → sc (V m c main_v3) (V m c main_v1) r x < ⊤) (n : ℕ) (hn : n < 52) :
    RunOk (sc (V m c main_v3) (V m c main_v1) (rowAt n hn p)) (Seen (n % 13 + 1)) (fun l => ((scr m c (n + 1)).1 : FVec Ideal S256x128 .f32) (ix2 p l))
      (fun l => ((scr m c (n + 1)).2 : IVec S256x128 32) (ix2 p l)) := by
  have step : ∀ (n : ℕ) (hn : n < 52), (n % 13 ≠ 0 → RunOk (sc (V m c main_v3) (V m c main_v1) (rowAt n hn p)) (Seen (n % 13))
      (fun l => ((scr m c n).1 : FVec Ideal S256x128 .f32) (ix2 p l)) (fun l => ((scr m c n).2 : IVec S256x128 32) (ix2 p l))) →
      RunOk (sc (V m c main_v3) (V m c main_v1) (rowAt n hn p)) (Seen (n % 13 + 1)) (fun l => ((scr m c (n + 1)).1 : FVec Ideal S256x128 .f32) (ix2 p l))
        (fun l => ((scr m c (n + 1)).2 : IVec S256x128 32) (ix2 p l)) := by
    intro n hn hprev
    have hN : n < cfg0.N := hn.trans_eq (by decide)
    have hc := coord1 ⟨n, hN⟩
    have hs := scr_succ m c ⟨n, hN⟩
    have h := step_ok (grid0.coords ⟨n, hN⟩) (qAt m c ⟨n, hN⟩) (kAt m c ⟨n, hN⟩) (begV (grid0.coords ⟨n, hN⟩) (scr m c n).1)
      (begI (F := Ideal) (grid0.coords ⟨n, hN⟩) (scr m c n).2) (sc (V m c main_v3) (V m c main_v1) (rowAt n hn p)) p (scores_sc m c ⟨n, hN⟩ p)
      (hfin _) (by
        rw [hc]
        by_cases h0 : n % 13 = 0
        · have hf := (first_iff ⟨n, hN⟩).mpr h0
          rw [begV_pos _ hf, begI_pos _ hf]
          show RunOk _ (Seen (n % 13)) _ _
          rw [h0]
          exact init_ok _ p
        · have hf := fun h => h0 ((first_iff ⟨n, hN⟩).mp h)
          rw [begV_neg _ hf, begI_neg _ hf]
          exact hprev h0)
    rw [hc] at h
    rw [show scr m c (n + 1) = _ from hs]
    exact h
  induction n with
  | zero => exact step 0 hn fun h => absurd rfl h
  | succ n ih =>
    refine step (n + 1) hn fun h => ?_
    have := ih (by omega)
    rw [show (n + 1) % 13 = n % 13 + 1 by omega, show rowAt (n + 1) hn p = rowAt n (by omega) p from Fin.ext (by
      show 256 * ((n + 1) / 13) + p.val = 256 * (n / 13) + p.val
      rw [show (n + 1) / 13 = n / 13 by omega])]
    exact this

/-- A distance of the tile written, written out. -/
theorem distV_at (q rv : FVec Ideal S256x128 .f32) (p : Fin 256) (c : Fin 128) :
    distV q rv (ix2 p c : S256x128.Idx) = Ideal.sqrt (max (rv (ix2 p c) + Ideal.ofBits .f32 1048576000#32 * ∑ x : Fin 128, q (ix2 p x) * q (ix2 p x)) 0 +
        Ideal.ofBits FTy.f32 730643660#32 : EReal) := by
  pointwise [distV, k0_pay10, k0_pay39]
end Cert.TopK
end
-- ==== Proof.Algebra.lean ====
module

public import proofs.«01_k».proof.Proof.Outer
public import proofs.«01_k».proof.Proof.Gen.ReferenceIdeal.Run
public import proofs.«01_k».proof.Defs

@[expose] public section

set_option maxRecDepth 16384

noncomputable section

namespace Cert.TopK

open Idealize.ShloMosaic Idealize.ShloMosaic.TcCoe Idealize.SL.Sem
open Cert.Top

local instance : Cert.Pre_bounded.Facts := ⟨by decide, by decide⟩

/-- The reference's distances. -/
abbrev RD (A : FVec Ideal Cert.ReferenceIdeal.S1024x128 .f32) (B : FVec Ideal Cert.ReferenceIdeal.S100000x128 .f32) :
    FVec Ideal Cert.ReferenceIdeal.S1024x100000 .f32 :=
  open Cert.ReferenceIdeal Cert.ReferenceIdeal.Gen in
  Host.sqrt (addf (maximumf (subf (addf (broadcastInDim S1024x100000 ![0, 1] bcast_S1024x1_S1024x100000_0_1 (broadcastInDim S1024x1 ![0] bcast_S1024_S1024x1_0
    (Host.reduceAdd (mulf A A) (constant S_ .f32 0x00000000#32) reducesTo_S1024x128_S1024_d1 h_S_))) (broadcastInDim S1024x100000 ![0, 1] bcast_S1x100000_S1024x100000_0_1
    (broadcastInDim S1x100000 ![1] bcast_S100000_S1x100000_1 (Host.reduceAdd (mulf B B) (constant S_ .f32 0x00000000#32) reducesTo_S100000x128_S100000_d1 h_S_))))
    (mulf (broadcastInDim S1024x100000 ![] bcast_S_S1024x100000 (constant S_ .f32 0x40000000#32)) (Host.dotGeneral dot_S1024x128_S128x100000_S1024x100000_1_0_0_1_n_n none A
    (transpose S128x100000 [1, 0] B transposes_S100000x128_S128x100000_1_0)))) (broadcastInDim S1024x100000 ![] bcast_S_S1024x100000 (constant S_ .f32 0x00000000#32)))
    (broadcastInDim S1024x100000 ![] bcast_S_S1024x100000 (constant S_ .f32 0x2B8CBCCC#32)))

open Cert.KernelIdeal Cert.KernelIdeal.Gen

/-! ## Constants -/

/-- The constant two. -/
theorem c_two : Ideal.ofBits .f32 1073741824#32 = ((2 : ℝ) : EReal) := by
  simp [Ideal.ofBits, Ideal.ieee, -EReal.coe_mul]; try norm_num
/-- The constant minus two. -/
theorem c_neg_two : Ideal.ofBits .f32 3221225472#32 = ((-2 : ℝ) : EReal) := by
  simp [Ideal.ofBits, Ideal.ieee, -EReal.coe_mul]; try norm_num
/-- The constant one quarter. -/
theorem c_quarter : Ideal.ofBits .f32 1048576000#32 = ((1 / 4 : ℝ) : EReal) := by
  simp [Ideal.ofBits, Ideal.ieee, -EReal.coe_mul]; try norm_num
/-- The padding value. -/
theorem c_pad : Ideal.ofBits .f32 1176256512#32 = ((10000 : ℝ) : EReal) := by
  simp [Ideal.ofBits, Ideal.ieee, -EReal.coe_mul]; try norm_num
/-- The bound of the precondition. -/
theorem c_bound : Ideal.ofBits .f32 1162891264#32 = ((3333 : ℝ) : EReal) := by
  simp [Ideal.ofBits, Ideal.ieee, -EReal.coe_mul]; try norm_num
/-- The small number under the root. -/
def eps : ℝ := 9223372 / 2 ^ 63
/-- The number under the root is positive. -/
theorem eps_pos : 0 < eps := by unfold eps; norm_num
/-- The number under the root as a real number. -/
theorem c_eps : Ideal.ofBits .f32 730643660#32 = (eps : EReal) := by
  unfold eps
  simp [Ideal.ofBits, Ideal.ieee, -EReal.coe_mul]; try norm_num

/-! ## Entries of bounded arrays are real numbers -/

/-- A number that passes the bound's comparison is real and at most 3333 in absolute value. -/
theorem absf_bound (x : EReal) (h : BitVec.ofBool (decide (FloatOps.absf (F := Ideal) (φ := .f32) x ≤ Ideal.ofBits .f32 1162891264#32)) = 1#1) :
    ∃ a : ℝ, x = (a : EReal) ∧ |a| ≤ 3333 := by
  rw [c_bound] at h
  have h' : FloatOps.absf (F := Ideal) (φ := .f32) x ≤ ((3333 : ℝ) : EReal) := by
    by_contra hn
    rw [decide_eq_false hn] at h
    exact absurd h (by decide)
  change max x (-x) ≤ ((3333 : ℝ) : EReal) at h'
  have h1 : x ≤ ((3333 : ℝ) : EReal) := (le_max_left _ _).trans h'
  have h2 : -x ≤ ((3333 : ℝ) : EReal) := (le_max_right _ _).trans h'
  induction x using EReal.rec with
  | bot => exact absurd h2 (by simp)
  | top => exact absurd h1 (by simp)
  | coe a =>
    rw [← EReal.coe_neg] at h2
    exact ⟨a, rfl, abs_le.mpr ⟨by linarith [EReal.coe_le_coe_iff.mp h2], EReal.coe_le_coe_iff.mp h1⟩⟩

/-- Under the precondition every entry is a real number of absolute value at most 3333. -/
theorem reals (A : FVec Ideal S1024x128 .f32) (B : FVec Ideal S100000x128 .f32)
    (h1 : (Cert.Pre_bounded.fn A B).1 = fun _ => 1#1) (h2 : (Cert.Pre_bounded.fn A B).2 = fun _ => 1#1) :
    (∃ a : Fin 1024 → Fin 128 → ℝ, ∀ r d, A (ix2 r d) = (a r d : EReal) ∧ |a r d| ≤ 3333) ∧
      ∃ b : Fin 100000 → Fin 128 → ℝ, ∀ n d, B (ix2 n d) = (b n d : EReal) ∧ |b n d| ≤ 3333 := by
  constructor
  · have h : ∀ (r : Fin 1024) (d : Fin 128), ∃ a : ℝ, A (ix2 r d) = (a : EReal) ∧ |a| ≤ 3333 := fun r d => absf_bound _ (by
      have := congrFun h1 (ix2 r d)
      pointwise [Cert.Pre_bounded.fn] at this
      exact this)
    choose a ha using h
    exact ⟨a, ha⟩
  · have h : ∀ (n : Fin 100000) (d : Fin 128), ∃ b : ℝ, B (ix2 n d) = (b : EReal) ∧ |b| ≤ 3333 := fun n d => absf_bound _ (by
      have := congrFun h2 (ix2 n d)
      pointwise [Cert.Pre_bounded.fn] at this
      exact this)
    choose b hb using h
    exact ⟨b, hb⟩

/-- A sum of real numbers is the same sum over the extended reals. -/
theorem sum_coe {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

section rows
variable {A : FVec Ideal S1024x128 .f32} {B : FVec Ideal S100000x128 .f32} {a : Fin 1024 → Fin 128 → ℝ} {b : Fin 100000 → Fin 128 → ℝ}
  (ha : ∀ r d, A (ix2 r d) = (a r d : EReal) ∧ |a r d| ≤ 3333) (hb : ∀ n d, B (ix2 n d) = (b n d : EReal) ∧ |b n d| ≤ 3333)

/-- A padded row of keys. -/
def padded (b : Fin 100000 → Fin 128 → ℝ) (n : ℕ) (d : Fin 128) : ℝ := if h : n < 100000 then b ⟨n, h⟩ d else 10000

/-- The score as a real number. -/
def scR (a : Fin 1024 → Fin 128 → ℝ) (b : Fin 100000 → Fin 128 → ℝ) (r : Fin 1024) (n : ℕ) : ℝ :=
  ∑ d, (a r d * -2) * padded b n d + ∑ d, padded b n d * padded b n d

/-- The distance as a real number. -/
def dist (a : Fin 1024 → Fin 128 → ℝ) (b : Fin 100000 → Fin 128 → ℝ) (r : Fin 1024) (n : ℕ) : ℝ :=
  Real.sqrt (max (scR a b r n + ∑ d, a r d * a r d) 0 + eps)

include ha in
/-- An entry of the scaled queries. -/
theorem QA_at (r : Fin 1024) (d : Fin 128) : QA A (ix2 r d) = ((a r d * -2 : ℝ) : EReal) := by
  have : QA A (ix2 r d) = (A (ix2 r d) * Ideal.ofBits .f32 3221225472#32 : EReal) := by
    pointwise [QA]
  rw [this, c_neg_two, (ha r d).1, EReal.coe_mul]

include hb in
/-- An entry of the padded, transposed keys. -/
theorem KA_at (d : Fin 128) (n : Fin 106496) : KA B (ix2 d n) = (padded b n.val d : EReal) := by
  have : KA B (ix2 d n) = (if h : n.val < 100000 then B (ix2 (⟨n.val, h⟩ : Fin 100000) d) else Ideal.ofBits .f32 1176256512#32 : EReal) := by
    pointwise [KA]
  rw [this]
  unfold padded
  split
  · exact (hb _ d).1
  · exact c_pad

include ha hb in
/-- The score of a key is a real number. -/
theorem sc_coe (r : Fin 1024) (x : BitVec 32) (hx : x.toNat < 106496) : sc (QA A) (KA B) r x = (scR a b r x.toNat : EReal) := by
  unfold sc scR
  rw [dif_pos hx]
  simp only [QA_at ha, KA_at hb, ← EReal.coe_mul, sum_coe, EReal.coe_add]

include ha in
/-- The kernel's distance of a score. -/
theorem distK_coe (r : Fin 1024) (n : ℕ) :
    Ideal.sqrt (max ((scR a b r n : EReal) + Ideal.ofBits .f32 1048576000#32 * ∑ d : Fin 128, QA A (ix2 r d) * QA A (ix2 r d)) 0 +
      Ideal.ofBits .f32 730643660#32) = (dist a b r n : EReal) := by
  have e : (1 / 4 : ℝ) * ∑ d, (a r d * -2) * (a r d * -2) = ∑ d, a r d * a r d := by
    rw [Finset.mul_sum]
    exact Finset.sum_congr rfl fun d _ => by ring
  simp only [QA_at ha, c_quarter, c_eps, ← EReal.coe_mul, sum_coe, e, ← EReal.coe_add, ← EReal.coe_zero, ← EReal.coe_strictMono.monotone.map_max]
  rw [Ideal.sqrt_coe, if_neg (not_lt.mpr (add_nonneg (le_max_right _ _) eps_pos.le))]
  rfl

include ha hb in
/-- The reference's distance. -/
theorem RD_coe (r : Fin 1024) (n : Fin 100000) : RD A B (ix2 r n) = (dist a b r n.val : EReal) := by
  have h : RD A B (ix2 r n) = Ideal.sqrt (max (∑ x : Fin 128, A (ix2 r x) * A (ix2 r x) + ∑ x : Fin 128, B (ix2 n x) * B (ix2 n x) -
      Ideal.ofBits FTy.f32 1073741824#32 * ∑ x : Fin 128, A (ix2 r x) * B (ix2 n x)) 0 + Ideal.ofBits FTy.f32 730643660#32 : EReal) := by
    pointwise [RD]
  have e : ∑ x, a r x * a r x + ∑ x, b n x * b n x - 2 * ∑ x, a r x * b n x = scR a b r n.val + ∑ d, a r d * a r d := by
    have hp : ∀ d, padded b n.val d = b n d := fun d => dif_pos n.isLt
    unfold scR
    simp only [hp, Finset.mul_sum]
    have e1 : ∑ d, a r d * -2 * b n d = - ∑ d, 2 * (a r d * b n d) := by
      rw [← Finset.sum_neg_distrib]
      exact Finset.sum_congr rfl fun d _ => by ring
    rw [e1]
    ring
  rw [h]
  simp only [(ha _ _).1, (hb _ _).1, c_two, c_eps, ← EReal.coe_mul, sum_coe, ← EReal.coe_add, ← EReal.coe_sub, ← EReal.coe_zero,
    ← EReal.coe_strictMono.monotone.map_max, e]
  rw [Ideal.sqrt_coe, if_neg (not_lt.mpr (add_nonneg (le_max_right _ _) eps_pos.le))]
  rfl

include ha hb in
/-- A padding key scores above every key. -/
theorem pad_above (r : Fin 1024) (n k : ℕ) (hn : n < 100000) (hk : ¬k < 100000) : scR a b r n < scR a b r k := by
  unfold scR
  rw [← Finset.sum_add_distrib, ← Finset.sum_add_distrib]
  refine Finset.sum_lt_sum_of_nonempty ⟨0, Finset.mem_univ _⟩ fun d _ => ?_
  have h1 : padded b n d = b ⟨n, hn⟩ d := dif_pos hn
  have h2 : padded b k d = 10000 := dif_neg hk
  rw [h1, h2]
  have h3 := abs_le.mp (ha r d).2
  have h4 := abs_le.mp (hb ⟨n, hn⟩ d).2
  nlinarith

/-- Smaller scores are smaller distances. -/
theorem dist_mono (r : Fin 1024) (n k : ℕ) (h : scR a b r n ≤ scR a b r k) : dist a b r n ≤ dist a b r k := by
  unfold dist
  exact Real.sqrt_le_sqrt (by gcongr)

end rows

end Cert.TopK
end
-- ==== Proof.Final.lean ====
module

public import proofs.«01_k».proof.Proof.Outer
public import Idealize.ShloMosaic.Lib.Pipeline.FrameTail

@[expose] public section

set_option maxRecDepth 16384

noncomputable section

namespace Cert.TopK

open Idealize.ShloMosaic Idealize.ShloMosaic.TcCoe Idealize.SL.Sem
open Idealize.ShloMosaic.Pipeline (Dat)
open Cert.KernelIdeal Cert.KernelIdeal.Gen
open Cert.Top

variable (m : (ℓ : Loc nD τ sig) → Buf (Elt Ideal) ℓ)

/-- The point at which a row's results are written. -/
def lastPt (r : Fin 1024) : Fin cfg0.N := ⟨13 * (r.val / 256) + 12, lt_of_lt_of_eq (show _ < 52 by omega) (by decide)⟩
/-- The row's place in its tile. -/
def tileRow (r : Fin 1024) : Fin 256 := ⟨r.val % 256, Nat.mod_lt _ (by decide)⟩

/-- The distances the kernel writes. -/
def outD (c : Dev nD) : FVec Ideal S1024x128 .f32 := fun j =>
  distV (qAt m c (lastPt (j 0))) (scr m c ((lastPt (j 0)).val + 1)).1 (ix2 (tileRow (j 0)) (j 1))
/-- The indices the kernel writes. -/
def outN (c : Dev nD) : IVec S1024x128 32 := fun j => ((scr m c ((lastPt (j 0)).val + 1)).2 : IVec S256x128 32) (ix2 (tileRow (j 0)) (j 1))

/-- The distances are written back only at the last block of keys, -/
theorem flush2 : ∀ t : Fin cfg0.N, (cfg0.win 2).flush t = true → t.val % 13 = 12 := (by decide +kernel : ∀ t : Fin grid0.N, _)
/-- and so are the indices. -/
theorem flush3 : ∀ t : Fin cfg0.N, (cfg0.win 3).flush t = true → t.val % 13 = 12 := (by decide +kernel : ∀ t : Fin grid0.N, _)

/-- A place of a tile written at `t` is the row `lastPt` and `tileRow` say. -/
theorem place (t : Fin cfg0.N) (ht : t.val % 13 = 12) (j : S1024x128.Idx) (y : S256x128.Idx) (h0 : (j 0).val = 256 * (t.val / 13) + (y 0).val)
    (h1 : (j 1).val = (y 1).val) : lastPt (j 0) = t ∧ (ix2 (tileRow (j 0)) (j 1) : S256x128.Idx) = y := by
  have hy : (y 0).val < 256 := (y 0).isLt
  refine ⟨Fin.ext ?_, ?_⟩
  · show 13 * ((j 0).val / 256) + 12 = t.val
    omega
  · funext a
    fin_cases a
    · exact Fin.ext (by show (j 0).val % 256 = (y 0).val; omega)
    · exact Fin.ext h1

/-- The tile of distances written at a point is that part of `outD`, -/
theorem outD_at (c : Dev nD) (t : Fin cfg0.N) (ht : t.val % 13 = 12) (j : S1024x128.Idx) (y : S256x128.Idx) (h0 : (j 0).val = 256 * (t.val / 13) + (y 0).val)
    (h1 : (j 1).val = (y 1).val) : distV (qAt m c t) (scr m c (t.val + 1)).1 y = outD m c j := by
  obtain ⟨e, e'⟩ := place t ht j y h0 h1
  unfold outD
  rw [e, e']

/-- and the tile of indices that part of `outN`. -/
theorem outN_at (c : Dev nD) (t : Fin cfg0.N) (ht : t.val % 13 = 12) (j : S1024x128.Idx) (y : S256x128.Idx) (h0 : (j 0).val = 256 * (t.val / 13) + (y 0).val)
    (h1 : (j 1).val = (y 1).val) : (scr m c (t.val + 1)).2 y = outN m c j := by
  obtain ⟨e, e'⟩ := place t ht j y h0 h1
  unfold outN
  rw [e, e']

/-- The array of distances after the last point. -/
theorem final2 (c : Dev nD) : (dats m 0 c).arrAt 2 (cfgs 0).N = outD m c := by
  refine (dats m 0 c).arrAt_eq_of_covers 2 _ (by decide +kernel) fun t hf y => ?_
  blk_simp
  rw [after2]
  exact outD_at m c t (flush2 t hf) _ y (by blk_simp [idx t]; try omega) (by blk_simp [idx t]; try omega)

/-- The array of indices after the last point. -/
theorem final3 (c : Dev nD) : (dats m 0 c).arrAt 3 (cfgs 0).N = outN m c := by
  refine (dats m 0 c).arrAt_eq_of_covers 3 _ (by decide +kernel) fun t hf y => ?_
  blk_simp
  rw [after3]
  exact outN_at m c t (flush3 t hf) _ y (by blk_simp [idx t]; try omega) (by blk_simp [idx t]; try omega)

/-- The first result: the first ten columns of the distances. -/
theorem tail5 (c : Dev nD) : Pipeline.afterTail₀ cfgs (dats m) 0 (V0 m) [hostOps1] c main_v5
    = extractStridedSlice S1024x10 ![0, 0] (outD m c) slices_S1024x128_S1024x10_0_0 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v4_0) = outD m c from
    (Pipeline.withArrays_arr spec0 launch0.win.arr_inj c (V0 m c) _ 2).trans (final2 m c)]

/-- The second result: the first ten columns of the indices. -/
theorem tail6 (c : Dev nD) : Pipeline.afterTail₀ cfgs (dats m) 0 (V0 m) [hostOps1] c main_v6
    = extractStridedSlice S1024x10 ![0, 0] (outN m c) slices_S1024x128_S1024x10_0_0 := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v4_1) = outN m c from
    (Pipeline.withArrays_arr spec0 launch0.win.arr_inj c (V0 m c) _ 3).trans (final3 m c)]

/-- Every run ends with the two results the first ten columns of the written arrays, and the arguments unchanged. -/
theorem run_results (ρ : Dev nD → PrngReg) : θ_run defs (onTc (τ := τ) (main (F := Ideal))) ⟨m, fun _ => 0, ρ⟩ (fun r => ∀ c : Dev nD,
    r.2.mem ((c.tc : Thread nD τ).loc main_v5) = extractStridedSlice S1024x10 ![0, 0] (outD m c) slices_S1024x128_S1024x10_0_0
    ∧ r.2.mem ((c.tc : Thread nD τ).loc main_v6) = extractStridedSlice S1024x10 ![0, 0] (outN m c) slices_S1024x128_S1024x10_0_0
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h.1 c).2 main_v5 (Pipeline.mem_restRefs_of main_v5 (by decide) (by decide))).trans (tail5 m c),
      ((h.1 c).2 main_v6 (Pipeline.mem_restRefs_of main_v6 (by decide) (by decide))).trans (tail6 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩) (run_main m ρ)

end Cert.TopK
end
-- ==== Proof.Rows.lean ====
module

public import proofs.«01_k».proof.Proof.Algebra
public import proofs.«01_k».proof.Proof.Final

@[expose] public section

set_option maxRecDepth 16384

noncomputable section

namespace Cert.TopK

open Idealize.ShloMosaic Idealize.ShloMosaic.TcCoe Idealize.SL.Sem
open Cert.KernelIdeal Cert.KernelIdeal.Gen
open Cert.Top

/-! ## The rows of the kernel's results -/

section kernel
variable (m : (ℓ : Loc nD τ sig) → Buf (Elt Ideal) ℓ) (c : Dev nD) {a : Fin 1024 → Fin 128 → ℝ} {b : Fin 100000 → Fin 128 → ℝ}

/-- The row written at its last point is itself. -/
theorem row_last (r : Fin 1024) : rowAt (lastPt r).val (point_lt (lastPt r)) (tileRow r) = r :=
  Fin.ext (show 256 * ((13 * (r.val / 256) + 12) / 13) + r.val % 256 = r.val by omega)

/-- A row of the kernel's results: the ten least distances over the keys, in order, with their indices. -/
theorem kernel_row (ha : ∀ r d, (m ((c.tc : Thread nD τ).loc main_arg0) : FVec Ideal S1024x128 .f32) (ix2 r d) = (a r d : EReal) ∧ |a r d| ≤ 3333)
    (hb : ∀ n d, (m ((c.tc : Thread nD τ).loc main_arg1) : FVec Ideal S100000x128 .f32) (ix2 n d) = (b n d : EReal) ∧ |b n d| ≤ 3333) (r : Fin 1024) :
    Least 10 (fun x : BitVec 32 => (dist a b r x.toNat : EReal)) (fun x => x.toNat < 100000)
      (fun j => outD m c (ix2 r (j.castLE (by decide)))) (fun j => outN m c (ix2 r (j.castLE (by decide)))) := by
  have hsc : ∀ (r : Fin 1024) (x : BitVec 32), x.toNat < 106496 → sc (V m c main_v3) (V m c main_v1) r x = (scR a b r x.toNat : EReal) := fun r x hx => by
    rw [V_v3, V_v1]
    exact sc_coe ha hb r x hx
  have hok := scr_ok m c (tileRow r) (fun r x hx => by rw [hsc r x hx]; exact EReal.coe_lt_top _) (lastPt r).val (point_lt (lastPt r))
  rw [row_last] at hok
  have hU : ∀ x : BitVec 32, Seen ((lastPt r).val % 13 + 1) x ↔ x.toNat < 106496 := fun x => by
    have : (lastPt r).val % 13 = 12 := by show (13 * (r.val / 256) + 12) % 13 = 12; omega
    unfold Seen
    rw [this]
  have hl := hok.head.resolve_left fun h => h.2 0#32 ((hU _).mpr (by decide))
  have hr : Least 10 (sc (V m c main_v3) (V m c main_v1) r) (fun x => x.toNat < 100000) _ _ := hl.restrict
    (fun x hx => (hU x).mpr (by omega))
    ⟨fun k => BitVec.ofNat 32 k.val, fun k k' h => Fin.ext (by
      have := congrArg BitVec.toNat h
      simp only [BitVec.toNat_ofNat] at this
      omega), fun k => by simp only [BitVec.toNat_ofNat]; omega⟩
    (fun x y hx hy hn => by
      rw [hsc r x (by omega), hsc r y ((hU y).mp hy)]
      exact EReal.coe_lt_coe_iff.mpr (pad_above ha hb r _ _ hx hn))
  have hd := hr.comp (t := fun x : BitVec 32 => (dist a b r x.toNat : EReal)) (fun x y hx hy h => by
    rw [hsc r x (by omega), hsc r y (by omega)] at h
    exact EReal.coe_le_coe_iff.mpr (dist_mono r _ _ (EReal.coe_le_coe_iff.mp h)))
  refine (funext fun j => ?_ : (fun j : Fin 10 => outD m c (ix2 r (j.castLE (by decide)))) = _) ▸ hd
  show distV (qAt m c (lastPt r)) (scr m c ((lastPt r).val + 1)).1 (ix2 (tileRow r) (j.castLE (by decide))) = _
  rw [distV_at, hr.val j, hsc r _ (by have := hr.mem j; omega)]
  simp only [qAt_at, row_last, V_v3]
  exact distK_coe ha r _

end kernel

/-! ## The rows of the reference's results -/

/-- Moving along the columns of a row. -/
theorem along_ix2 {n k : ℕ} (r : Fin n) (c p : Fin k) : Shape.Idx.along (s := ⟨2, ![n, k]⟩) (ix2 r c) (1 : Fin 2) p = ix2 r p := by
  funext x
  fin_cases x
  · exact Function.update_of_ne (fun h => absurd (congrArg Fin.val h) Nat.zero_ne_one) _ _
  · exact Function.update_self _ _ _

/-- A row of two arrays sorted together along the columns. -/
theorem sort2_row {n N : ℕ} {α β : Type} (cmp : α × β → α × β → BitVec 1) (x : (⟨2, ![n, N]⟩ : Shape).Idx → α) (y : (⟨2, ![n, N]⟩ : Shape).Idx → β)
    (r : Fin n) (c : Fin N) :
    (Host.sort2 ⟨2, ![n, N]⟩ 1 cmp x y).1 (ix2 r c) = x (ix2 r (sortedFrom (fun p q => cmp (x (ix2 r p), y (ix2 r p)) (x (ix2 r q), y (ix2 r q)) == 1#1) c)) ∧
      (Host.sort2 ⟨2, ![n, N]⟩ 1 cmp x y).2 (ix2 r c) = y (ix2 r (sortedFrom (fun p q => cmp (x (ix2 r p), y (ix2 r p)) (x (ix2 r q), y (ix2 r q)) == 1#1) c)) := by
  have e : (fun p => Shape.Idx.along (s := ⟨2, ![n, N]⟩) (ix2 r c) (1 : Fin 2) p) = fun p => ix2 r p := funext (along_ix2 r c)
  exact ⟨congrArg (fun f : Fin N → (⟨2, ![n, N]⟩ : Shape).Idx => x (f (sortedFrom (fun p q => cmp (x (f p), y (f p)) (x (f q), y (f q)) == 1#1) c))) e,
    congrArg (fun f : Fin N → (⟨2, ![n, N]⟩ : Shape).Idx => y (f (sortedFrom (fun p q => cmp (x (f p), y (f p)) (x (f q), y (f q)) == 1#1) c))) e⟩

/-- The first columns of an array. -/
theorem slice_row {n N k : ℕ} {α : Type} (y : (⟨2, ![n, N]⟩ : Shape).Idx → α) (h : (⟨2, ![n, N]⟩ : Shape).Slices (fun _ => 0) ⟨2, ![n, k]⟩) (hk : k ≤ N)
    (r : Fin n) (j : Fin k) : extractStridedSlice ⟨2, ![n, k]⟩ (fun _ => 0) y h (ix2 r j) = y (ix2 r (j.castLE hk)) := by
  unfold extractStridedSlice
  congr 1
  funext x
  fin_cases x <;> exact Fin.ext (Nat.zero_add _)

/-- A row of the first `k` columns of a descending sort: the values stand at different positions, none of them out of order, and the positions are the indices. -/
theorem topK_row {n N k : ℕ} (x : FVec Ideal ⟨2, ![n, N]⟩ .f32) (h : (⟨2, ![n, N]⟩ : Shape).Slices (fun _ => 0) ⟨2, ![n, k]⟩) (hk : k ≤ N) (r : Fin n) :
    ∃ π : Fin N → Fin N, Function.Bijective π ∧ (∀ i j, i < j → ¬ x (ix2 r (π i)) < x (ix2 r (π j))) ∧
      ∀ j : Fin k, (Host.topK ⟨2, ![n, k]⟩ 1 (FloatOps.cmpfTotal .gt) x h).1 (ix2 r j) = x (ix2 r (π (j.castLE hk))) ∧
        (Host.topK ⟨2, ![n, k]⟩ 1 (FloatOps.cmpfTotal .gt) x h).2 (ix2 r j) = BitVec.ofNat 32 (π (j.castLE hk)).val := by
  let lt : Fin N → Fin N → Bool := fun p q => FloatOps.cmpfTotal (F := Ideal) (φ := .f32) .gt (x (ix2 r p)) (x (ix2 r q)) == 1#1
  have hlt : ∀ p q, lt p q = decide (x (ix2 r q) < x (ix2 r p)) := fun p q => by
    show (BitVec.ofBool (decide (x (ix2 r q) < x (ix2 r p))) == 1#1) = _
    cases decide (x (ix2 r q) < x (ix2 r p)) <;> rfl
  refine ⟨sortedFrom lt, ⟨sortedFrom_injective lt, sortedFrom_surjective lt⟩, fun i j hij => ?_, fun j => ?_⟩
  · have := sortedFrom_noInversion lt lt (fun p q h => by
      rw [hlt, decide_eq_true_eq] at h
      rw [hlt, decide_eq_false_iff_not]
      exact not_lt.mpr h.le) (fun _ _ h => h) (fun p q u h h' => by
      rw [hlt, decide_eq_false_iff_not, not_lt] at h h' ⊢
      exact h.trans h') i j hij
    rw [hlt, decide_eq_false_iff_not] at this
    exact this
  · unfold Host.topK
    dsimp only
    rw [slice_row _ h hk, slice_row _ h hk]
    exact sort2_row _ _ _ r (j.castLE hk)

section reference
variable {A : FVec Ideal S1024x128 .f32} {B : FVec Ideal S100000x128 .f32} {a : Fin 1024 → Fin 128 → ℝ} {b : Fin 100000 → Fin 128 → ℝ}
  (ha : ∀ r d, A (ix2 r d) = (a r d : EReal) ∧ |a r d| ≤ 3333) (hb : ∀ n d, B (ix2 n d) = (b n d : EReal) ∧ |b n d| ≤ 3333)

include ha hb in
/-- A row of the first `k` of the reference's sorted distances: the `k` least over the keys, negated, with their indices. -/
theorem ref_row {k : ℕ} (h : (⟨2, ![1024, 100000]⟩ : Shape).Slices (fun _ => 0) ⟨2, ![1024, k]⟩) (hk : k ≤ 100000) (r : Fin 1024) :
    Least k (fun x : BitVec 32 => (dist a b r x.toNat : EReal)) (fun x => x.toNat < 100000)
      (fun j => -((Host.topK ⟨2, ![1024, k]⟩ 1 (FloatOps.cmpfTotal (F := Ideal) (φ := .f32) .gt) (Host.negf (RD A B)) h).1 (ix2 r j) : EReal))
      (fun j => (Host.topK ⟨2, ![1024, k]⟩ 1 (FloatOps.cmpfTotal (F := Ideal) (φ := .f32) .gt) (Host.negf (RD A B)) h).2 (ix2 r j)) := by
  obtain ⟨π, hπ, hno, hat⟩ := topK_row (Host.negf (RD A B)) h hk r
  have hD : ∀ p : Fin 100000, (Host.negf (RD A B) (ix2 r p) : EReal) = -(dist a b r p.val : EReal) := fun p => by
    rw [← RD_coe ha hb r p]
    rfl
  have hle : ∀ i j, i ≤ j → dist a b r (π i).val ≤ dist a b r (π j).val := fun i j hij => by
    rcases hij.eq_or_lt with rfl | hlt
    · exact le_refl _
    · have h1 : ¬(Host.negf (RD A B) (ix2 r (π i)) : EReal) < (Host.negf (RD A B) (ix2 r (π j)) : EReal) := hno i j hlt
      rw [hD, hD, not_lt, EReal.neg_le_neg_iff] at h1
      exact EReal.coe_le_coe_iff.mp h1
  have hn : ∀ p : Fin 100000, (BitVec.ofNat 32 p.val).toNat = p.val := fun p => by
    rw [BitVec.toNat_ofNat]
    omega
  have e1 : (fun j => -((Host.topK ⟨2, ![1024, k]⟩ 1 (FloatOps.cmpfTotal (F := Ideal) (φ := .f32) .gt) (Host.negf (RD A B)) h).1 (ix2 r j) : EReal)) =
      fun j : Fin k => (dist a b r (π (j.castLE hk)).val : EReal) := funext fun j => by
    rw [(hat j).1]
    exact (congrArg (fun v : EReal => -v) (hD _)).trans (neg_neg _)
  have e2 : (fun j => (Host.topK ⟨2, ![1024, k]⟩ 1 (FloatOps.cmpfTotal (F := Ideal) (φ := .f32) .gt) (Host.negf (RD A B)) h).2 (ix2 r j)) =
      fun j : Fin k => BitVec.ofNat 32 (π (j.castLE hk)).val := funext fun j => (hat j).2
  rw [e1, e2]
  refine ⟨fun j => ?_, fun j => ?_, fun i j hij => ?_, fun i j hij => ?_, fun x hx => ?_⟩
  · show (BitVec.ofNat 32 _).toNat < 100000
    rw [hn]
    exact (π _).isLt
  · show _ = (dist a b r (BitVec.ofNat 32 _).toNat : EReal)
    rw [hn]
  · exact EReal.coe_le_coe_iff.mpr (hle _ _ hij)
  · have h1 := congrArg BitVec.toNat hij
    simp only [hn] at h1
    exact Fin.castLE_injective hk (hπ.1 (Fin.ext h1))
  · obtain ⟨p, hp⟩ := hπ.2 ⟨x.toNat, hx⟩
    have hpx : (π p).val = x.toNat := congrArg Fin.val hp
    by_cases hpk : p.val < k
    · refine .inl ⟨⟨p.val, hpk⟩, BitVec.eq_of_toNat_eq ?_⟩
      rw [hn]
      exact hpx
    · refine .inr fun j => ?_
      show (dist a b r (π (j.castLE hk)).val : EReal) ≤ (dist a b r x.toNat : EReal)
      rw [← hpx]
      exact EReal.coe_le_coe_iff.mpr (hle _ _ (Fin.le_def.mpr (show j.val ≤ p.val by omega)))

end reference

end Cert.TopK
end
-- ==== Proof.Mask.lean ====
module

public import proofs.«01_k».proof.Proof.Algebra

@[expose] public section

set_option maxRecDepth 16384

noncomputable section

namespace Cert.TopK

open Idealize.ShloMosaic Idealize.ShloMosaic.TcCoe Idealize.SL.Sem
open Cert.Top

/-! ## The places where the indices are determined -/

local instance : Cert.On_isolated.Facts :=
  ⟨by decide, by decide, by decide, by decide, by decide, by decide, by decide, by decide, by decide, by decide, by decide, by decide, by decide,
    by decide, by decide, by decide, by decide⟩

/-- Where a list of eleven columns strictly falls on both sides of one of the first ten. -/
def strict (L : FVec Ideal Cert.On_isolated.S1024x11 .f32) : IVec Cert.On_isolated.S1024x10 1 :=
  open Cert.On_isolated Cert.On_isolated.Facts in
  andi (concatenate S1024x10 1 [⟨S1024x1, broadcastInDim S1024x1 ![] bcast_S_S1024x1 (constantI S_ 1 1#1)⟩,
      ⟨S1024x9, extractStridedSlice S1024x9 ![0, 0] (cmpf .ogt (extractStridedSlice S1024x10 ![0, 0] L slices_S1024x11_S1024x10_0_0)
        (extractStridedSlice S1024x10 ![0, 1] L slices_S1024x11_S1024x10_0_1)) slices_S1024x10_S1024x9_0_0⟩] concatenates_S1024x1_S1024x9_S1024x10_d1)
    (cmpf .ogt (extractStridedSlice S1024x10 ![0, 0] L slices_S1024x11_S1024x10_0_0) (extractStridedSlice S1024x10 ![0, 1] L slices_S1024x11_S1024x10_0_1))

/-- The second array of the mask is `strict` of the reference's eleven least. -/
theorem isolated_eq (A : FVec Ideal Cert.On_isolated.S1024x128 .f32) (B : FVec Ideal Cert.On_isolated.S100000x128 .f32) : (Cert.On_isolated.fn A B).2 =
    strict (Host.topK Cert.On_isolated.S1024x11 1 (FloatOps.cmpfTotal .gt) (Host.negf (RD A B)) (Cert.On_isolated.Facts.sliceFits_S1024x100000_S1024x11)).1 := rfl

/-- What the mask says of one place. -/
theorem strict_at (L : FVec Ideal Cert.On_isolated.S1024x11 .f32) (r : Fin 1024) (j : Fin 10) (h : strict L (ix2 r j) = 1#1) :
    (∀ a : Fin 11, a.val + 1 = j.val → (L (ix2 r j.castSucc) : EReal) < L (ix2 r a)) ∧ (L (ix2 r j.succ) : EReal) < L (ix2 r j.castSucc) := by
  pointwise [strict] at h
  have hand : ∀ p q : BitVec 1, IntOp.andi p q = 1#1 → p = 1#1 ∧ q = 1#1 := by decide
  have hdec : ∀ p : Prop, ∀ _ : Decidable p, BitVec.ofBool (decide p) = 1#1 → p := fun p _ h => by
    by_contra hn
    rw [decide_eq_false hn] at h
    exact absurd h (by decide)
  obtain ⟨h1, h2⟩ := hand _ _ h
  refine ⟨fun a ha => ?_, ?_⟩
  · rw [dif_neg (by omega)] at h1
    have h3 := hdec _ _ h1
    have e1 : (⟨1 + (j.val - 1), by omega⟩ : Fin 11) = j.castSucc := Fin.ext (show 1 + (j.val - 1) = j.val by omega)
    have e2 : (⟨j.val - 1, by omega⟩ : Fin 11) = a := Fin.ext (show j.val - 1 = a.val by omega)
    rw [e1, e2] at h3
    exact h3
  · have h3 := hdec _ _ h2
    have e1 : (⟨1 + j.val, by omega⟩ : Fin 11) = j.succ := Fin.ext (Nat.add_comm 1 j.val)
    rw [e1] at h3
    exact h3

end Cert.TopK
end
-- ==== Proof.Value.lean ====
module

public import proofs.«01_k».proof.Proof.Rows
public import proofs.«01_k».proof.Proof.Mask

@[expose] public section

set_option maxRecDepth 16384

noncomputable section

namespace Cert.TopK

open Idealize.ShloMosaic Idealize.ShloMosaic.TcCoe Idealize.SL.Sem
open Cert.KernelIdeal Cert.KernelIdeal.Gen
open Cert.Top

local instance : Cert.KernelIdeal.Facts := Cert.KernelIdeal.Gen.facts
local instance : Cert.ReferenceIdeal.Facts := Cert.ReferenceIdeal.Gen.facts
local instance : Cert.Pre_bounded.Facts := ⟨by decide, by decide⟩
local instance : Cert.On_isolated.Facts :=
  ⟨by decide, by decide, by decide, by decide, by decide, by decide, by decide, by decide, by decide, by decide, by decide, by decide, by decide,
    by decide, by decide, by decide, by decide⟩

/-- The reference's distances sorted, the first `k` of each row, and their positions. -/
abbrev refK (k : ℕ) (h : (⟨2, ![1024, 100000]⟩ : Shape).Slices (fun _ => 0) ⟨2, ![1024, k]⟩) (A : FVec Ideal S1024x128 .f32) (B : FVec Ideal S100000x128 .f32) :
    FVec Ideal ⟨2, ![1024, k]⟩ .f32 × IVec ⟨2, ![1024, k]⟩ 32 :=
  Host.topK ⟨2, ![1024, k]⟩ 1 (FloatOps.cmpfTotal .gt) (Host.negf (RD A B)) h

/-- A place of the results is a row and a column. -/
theorem ix2_of (i : (⟨2, ![1024, 10]⟩ : Shape).Idx) : ∃ (r : Fin 1024) (j : Fin 10), i = ix2 r j :=
  ⟨i 0, i 1, funext fun a => by fin_cases a <;> rfl⟩

/-- The slice of the first ten columns. -/
theorem first_ten {α : Type} (y : S1024x128.Idx → α) (r : Fin 1024) (j : Fin 10) :
    extractStridedSlice S1024x10 ![0, 0] y slices_S1024x128_S1024x10_0_0 (ix2 r j) = y (ix2 r (j.castLE (by decide))) := by
  unfold extractStridedSlice
  congr 1
  funext x
  fin_cases x <;> exact Fin.ext (Nat.zero_add _)

section
variable (m : (ℓ : Loc nD τ sig) → Buf (Elt Ideal) ℓ) (c : Dev nD)
  (hpre : (Cert.Pre_bounded.fn (F := Ideal) (m ((c.tc : Thread nD τ).loc main_arg0)) (m ((c.tc : Thread nD τ).loc main_arg1))).1 = (fun _ => 1#1)
    ∧ (Cert.Pre_bounded.fn (F := Ideal) (m ((c.tc : Thread nD τ).loc main_arg0)) (m ((c.tc : Thread nD τ).loc main_arg1))).2 = (fun _ => 1#1))
  (h10 : (⟨2, ![1024, 100000]⟩ : Shape).Slices (fun _ => 0) ⟨2, ![1024, 10]⟩)

include hpre in
/-- The first result of the kernel is that of the reference, everywhere. -/
theorem value1 (i : (⟨2, ![1024, 10]⟩ : Shape).Idx) : extractStridedSlice S1024x10 ![0, 0] (outD m c) slices_S1024x128_S1024x10_0_0 i =
    Host.negf (refK 10 h10 (m ((c.tc : Thread nD τ).loc main_arg0)) (m ((c.tc : Thread nD τ).loc main_arg1))).1 i := by
  obtain ⟨⟨a, ha⟩, b, hb⟩ := reals _ _ hpre.1 hpre.2
  obtain ⟨r, j, rfl⟩ := ix2_of i
  rw [first_ten]
  exact congrFun ((kernel_row m c ha hb r).val_unique (ref_row ha hb h10 (by decide) r)) j

include hpre in
/-- The second result of the kernel is that of the reference wherever the distance differs from its neighbours in the row's list. -/
theorem value2 (i : (⟨2, ![1024, 10]⟩ : Shape).Idx)
    (hi : (Cert.On_isolated.fn (F := Ideal) (m ((c.tc : Thread nD τ).loc main_arg0)) (m ((c.tc : Thread nD τ).loc main_arg1))).2 i = 1#1) :
    extractStridedSlice S1024x10 ![0, 0] (outN m c) slices_S1024x128_S1024x10_0_0 i =
    (refK 10 h10 (m ((c.tc : Thread nD τ).loc main_arg0)) (m ((c.tc : Thread nD τ).loc main_arg1))).2 i := by
  obtain ⟨⟨a, ha⟩, b, hb⟩ := reals _ _ hpre.1 hpre.2
  obtain ⟨r, j, rfl⟩ := ix2_of i
  rw [first_ten]
  rw [isolated_eq] at hi
  obtain ⟨hlo, hhi⟩ := strict_at _ r j hi
  have h11 := ref_row ha hb (Cert.On_isolated.Facts.sliceFits_S1024x100000_S1024x11) (by decide) r
  have hlo' := fun (a : Fin 11) (ha : a.val + 1 = j.val) => EReal.neg_lt_neg_iff.mpr (hlo a ha)
  have hhi' := EReal.neg_lt_neg_iff.mpr hhi
  exact (h11.idx_unique (kernel_row m c ha hb r) j hlo' hhi').trans (h11.idx_unique (ref_row ha hb h10 (by decide) r) j hlo' hhi').symm

end

/-- Over the extended reals the kernel and the reference agree: on the distances everywhere, on the indices where the mask is set. -/
theorem value : Cert.algebraic_KernelIdeal_ReferenceIdeal_on_isolated_pre_bounded := fun m g m' g' hpre hargs =>
  ⟨fun c => Host.negf (refK 10 Cert.ReferenceIdeal.Gen.sliceFits_S1024x100000_S1024x10 (m ((c.tc : Thread nD τ).loc main_arg0)) (m ((c.tc : Thread nD τ).loc main_arg1))).1,
    fun c => (refK 10 Cert.ReferenceIdeal.Gen.sliceFits_S1024x100000_S1024x10 (m ((c.tc : Thread nD τ).loc main_arg0)) (m ((c.tc : Thread nD τ).loc main_arg1))).2,
    (θ_run _ _ _).mono (fun r h c => ⟨fun i _ => (congrFun (h c).1 i).trans (value1 m c (hpre c) _ i),
      fun i hi => (congrFun (h c).2.1 i).trans (value2 m c (hpre c) _ i hi), (h c).2.2.1, (h c).2.2.2⟩) (run_results m g),
    (θ_run _ _ _).mono (fun r h c => by
      obtain ⟨e0, e1⟩ := hargs c
      obtain ⟨h1, h2, h3, h4⟩ := h c
      rw [e0, e1] at h1 h2
      exact ⟨fun i _ => congrFun h1 i, fun i _ => congrFun h2 i, h3, h4⟩) (Cert.ReferenceIdeal.Value.run m' g')⟩

end Cert.TopK
end
-- ==== Proof.Attained.lean ====
module

public import proofs.«01_k».proof.Proof.Value

@[expose] public section

set_option maxRecDepth 16384

noncomputable section

namespace Cert.TopK

open Idealize.ShloMosaic Idealize.ShloMosaic.TcCoe Idealize.SL.Sem
open Cert.Top

local instance : Cert.KernelIdeal.Facts := Cert.KernelIdeal.Gen.facts
local instance : Cert.Pre_bounded.Facts := ⟨by decide, by decide⟩
local instance postFacts : Cert.Post_attained.Facts :=
  ⟨by decide, by decide, by decide, by decide, by decide, by decide, by decide, by decide, by decide, by decide, by decide, by decide, by decide⟩

section
open Cert.Post_attained

/-- The rows of the keys taken at an array of indices: at an index below 100000, that row. -/
theorem take_at (B : FVec Ideal S100000x128 .f32) (N : IVec S1024x10 32) (r : Fin 1024) (j : Fin 10) (d : Fin 128) (h : (N (ix2 r j)).toNat < 100000) :
    fn_take B N (ix3 r j d) = B (ix2 (⟨(N (ix2 r j)).toNat, h⟩ : Fin 100000) d) := by
  have hn : (N (ix2 r j)).toInt.toNat = (N (ix2 r j)).toNat := by
    rw [BitVec.toInt_eq_toNat_of_lt (by omega)]; rfl
  unfold fn_take Host.gather
  dsimp only
  congr 1
  funext a
  refine Fin.ext ?_
  set D := gather_S100000x128_S1024x10x1_S1024x10x128_2_0_n_n_0_2_1128
  show D.start (ix3 r j d) _ a + D.batchCoord (ix3 r j d) a + D.offCoord (ix3 r j d) a = _
  rw [GatherDims.batchCoord_eq_zero _ _ _ (show a ∉ ([] : List (Fin 2)) from List.not_mem_nil)]
  obtain rfl | rfl : a = 0 ∨ a = 1 := by fin_cases a <;> simp
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    show min (BitVec.toInt (N _)).toNat (100000 - 1) = (N (ix2 r j)).toNat
    rw [show (N _) = N (ix2 r j) from congrArg N (by funext b; fin_cases b <;> rfl), hn]
    omega
  · unfold GatherDims.start
    rw [dif_neg (show (1 : Fin 2) ∉ D.startIndexMap from (by decide : (1 : Fin 2) ∉ ([0] : List (Fin 2))))]
    unfold GatherDims.offCoord
    rw [dif_pos (show (1 : Fin 2) ∈ D.sKept by decide)]
    simp only [Nat.zero_add]
    rfl

/-- The first part of the predicate: an index below 100000 is in range. -/
theorem post_range (A : FVec Ideal S1024x128 .f32) (B : FVec Ideal S100000x128 .f32) (V : FVec Ideal S1024x10 .f32) (N : IVec S1024x10 32)
    (r : Fin 1024) (j : Fin 10) (h : (N (ix2 r j)).toNat < 100000) : (fn A B V N).1 (ix2 r j) = 1#1 := by
  pointwise [fn, fn_part1]
  have hi : (N (ix2 r j)).toInt = (N (ix2 r j)).toNat := BitVec.toInt_eq_toNat_of_lt (by omega)
  have h1 : IntOp.cmpi .sge (N (ix2 r j)) 0#32 = 1#1 := by
    show BitVec.ofBool (decide ((0#32 : BitVec 32).toInt ≤ (N (ix2 r j)).toInt)) = 1#1
    rw [decide_eq_true (by rw [hi]; exact Int.natCast_nonneg _)]
    rfl
  have h2 : IntOp.cmpi .slt (N (ix2 r j)) 100000#32 = 1#1 := by
    show BitVec.ofBool (decide ((N (ix2 r j)).toInt < (100000#32 : BitVec 32).toInt)) = 1#1
    rw [decide_eq_true (by rw [hi]; show ((N (ix2 r j)).toNat : ℤ) < 100000; omega)]
    rfl
  rw [h1, h2]
  rfl

/-- The second part: a distance that is the reference's distance of its index. -/
theorem post_value (A : FVec Ideal S1024x128 .f32) (B : FVec Ideal S100000x128 .f32) (V : FVec Ideal S1024x10 .f32) (N : IVec S1024x10 32)
    (r : Fin 1024) (j : Fin 10) (h : (N (ix2 r j)).toNat < 100000) (hv : V (ix2 r j) = RD A B (ix2 r (⟨(N (ix2 r j)).toNat, h⟩ : Fin 100000))) :
    (fn A B V N).2.1 (ix2 r j) = 1#1 := by
  have hd : RD A B (ix2 r (⟨(N (ix2 r j)).toNat, h⟩ : Fin 100000)) = Ideal.sqrt (max (∑ x : Fin 128, A (ix2 r x) * A (ix2 r x) +
      ∑ x : Fin 128, B (ix2 (⟨(N (ix2 r j)).toNat, h⟩ : Fin 100000) x) * B (ix2 (⟨(N (ix2 r j)).toNat, h⟩ : Fin 100000) x) -
      Ideal.ofBits FTy.f32 1073741824#32 * ∑ x : Fin 128, A (ix2 r x) * B (ix2 (⟨(N (ix2 r j)).toNat, h⟩ : Fin 100000) x)) 0 +
      Ideal.ofBits FTy.f32 730643660#32 : EReal) := by
    pointwise [RD]
  pointwise [fn, fn_part1]
  simp only [take_at B N r j _ h]
  rw [decide_eq_true (hv.trans hd)]
  rfl

/-- The third part: two places of a row hold different indices, or are the same place. -/
theorem post_distinct (A : FVec Ideal S1024x128 .f32) (B : FVec Ideal S100000x128 .f32) (V : FVec Ideal S1024x10 .f32) (N : IVec S1024x10 32)
    (r : Fin 1024) (j k : Fin 10) (h : N (ix2 r j) = N (ix2 r k) → j = k) : (fn A B V N).2.2 (ix3 r j k) = 1#1 := by
  pointwise [fn, fn_part1]
  show BitVec.ofBool (N (ix2 r j) != N (ix2 r k)) ||| BitVec.ofBool (BitVec.ofNat 32 j.val == BitVec.ofNat 32 k.val) = 1#1
  by_cases e : j = k
  · subst e
    simp
  · have hn : (N (ix2 r j) != N (ix2 r k)) = true := bne_iff_ne.mpr fun hN => e (h hN)
    rw [hn]
    cases (BitVec.ofNat 32 j.val == BitVec.ofNat 32 k.val) <;> rfl

end

section
open Cert.KernelIdeal Cert.KernelIdeal.Gen

variable (m : (ℓ : Loc nD τ sig) → Buf (Elt Ideal) ℓ) (c : Dev nD)

/-- The predicate of the kernel's own results, where the entries are real numbers of absolute value at most 3333. -/
theorem post_row {a : Fin 1024 → Fin 128 → ℝ} {b : Fin 100000 → Fin 128 → ℝ}
    (ha : ∀ r d, (m ((c.tc : Thread nD τ).loc main_arg0) : FVec Ideal S1024x128 .f32) (ix2 r d) = (a r d : EReal) ∧ |a r d| ≤ 3333)
    (hb : ∀ n d, (m ((c.tc : Thread nD τ).loc main_arg1) : FVec Ideal S100000x128 .f32) (ix2 n d) = (b n d : EReal) ∧ |b n d| ≤ 3333)
    (V : FVec Ideal S1024x10 .f32) (N : IVec S1024x10 32)
    (hV : V = extractStridedSlice S1024x10 ![0, 0] (outD m c) slices_S1024x128_S1024x10_0_0)
    (hN : N = extractStridedSlice S1024x10 ![0, 0] (outN m c) slices_S1024x128_S1024x10_0_0) :
    (Cert.Post_attained.fn (F := Ideal) (m ((c.tc : Thread nD τ).loc main_arg0)) (m ((c.tc : Thread nD τ).loc main_arg1)) V N).1 = (fun _ => 1#1) ∧
    (Cert.Post_attained.fn (F := Ideal) (m ((c.tc : Thread nD τ).loc main_arg0)) (m ((c.tc : Thread nD τ).loc main_arg1)) V N).2.1 = (fun _ => 1#1) ∧
    (Cert.Post_attained.fn (F := Ideal) (m ((c.tc : Thread nD τ).loc main_arg0)) (m ((c.tc : Thread nD τ).loc main_arg1)) V N).2.2 = (fun _ => 1#1) := by
  have hv : ∀ r j, V (ix2 r j) = outD m c (ix2 r (j.castLE (by decide))) := fun r j => by rw [hV, first_ten]
  have hn : ∀ r j, N (ix2 r j) = outN m c (ix2 r (j.castLE (by decide))) := fun r j => by rw [hN, first_ten]
  have hmem : ∀ (r : Fin 1024) (j : Fin 10), (N (ix2 r j)).toNat < 100000 := fun r j => by
    rw [hn]
    exact (kernel_row m c ha hb r).mem j
  refine ⟨funext fun i => ?_, funext fun i => ?_, funext fun i => ?_⟩
  · obtain ⟨r, j, rfl⟩ := ix2_of i
    exact post_range _ _ V N r j (hmem r j)
  · obtain ⟨r, j, rfl⟩ := ix2_of i
    refine post_value _ _ V N r j (hmem r j) ?_
    rw [RD_coe ha hb, hv, (kernel_row m c ha hb r).val j]
    show _ = (dist a b r (N (ix2 r j)).toNat : EReal)
    rw [hn]
  · obtain ⟨r, j, k, rfl⟩ : ∃ (r : Fin 1024) (j k : Fin 10), i = ix3 r j k := ⟨i 0, i 1, i 2, funext fun a => by fin_cases a <;> rfl⟩
    refine post_distinct _ _ V N r j k fun h => (kernel_row m c ha hb r).inj ?_
    rw [hn, hn] at h
    exact h

/-- Over the extended reals, at every place of the results, equal distances included: the index is that of a key, the distance is that
key's, and no index stands twice in a row. -/
theorem attained : Cert.holds_KernelIdeal_attained_pre_bounded := fun m g hpre =>
  (θ_run _ _ _).mono (fun r h c => by
    obtain ⟨⟨a, ha⟩, b, hb⟩ := reals _ _ (hpre c).1 (hpre c).2
    exact ⟨(h c).2.2.1, (h c).2.2.2, post_row m c ha hb _ _ (h c).1 (h c).2.1⟩) (run_results m g)

end

end Cert.TopK
end
-- ==== Proof.lean ====
/- The proof of the certificate's claims: each is a theorem of the modules under Proof/. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Value
public import proofs.«01_k».proof.Proof.Attained
public import Idealize.ShloMosaic.Adequacy
public import Idealize.ShloMosaic.Init

@[expose] public section

noncomputable section

namespace Cert.Proof

open Idealize.ShloMosaic Idealize.SL.Sem Cert.Kernel

/-- All the claims: the frames, the idealization, the values, and what the indices are at equal distances. -/
theorem claim : Cert.Claim := ⟨Cert.Kernel.Gen.facts, Cert.KernelIdeal.Gen.facts, Cert.ReferenceIdeal.Gen.facts, ⟨by decide, by decide⟩,
  ⟨by decide, by decide, by decide, by decide, by decide, by decide, by decide, by decide, by decide, by decide, by decide, by decide, by decide⟩,
  ⟨by decide, by decide, by decide, by decide, by decide, by decide, by decide, by decide, by decide, by decide, by decide, by decide, by decide,
    by decide, by decide, by decide, by decide⟩,
  frame_kernel, frame_ideal, frame_ideal_bounded, frame_reference, frame_reference_bounded, trivial, Cert.TopK.value, Cert.TopK.attained⟩

end Cert.Proof

end
